-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2 = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_Rwkv (m : (ℓ : Loc Cert.Rwkv.nD Cert.Rwkv.τ Cert.Rwkv.sig) → Buf (Elt Bits) ℓ) : Prop :=
  True

def Pre_RwkvIdeal (m : (ℓ : Loc Cert.RwkvIdeal.nD Cert.RwkvIdeal.τ Cert.RwkvIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8)
      ∧ r.2.mem ((c.tc : Thread Cert.MixReferenceIdeal.nD Cert.MixReferenceIdeal.τ).loc Cert.MixReferenceIdeal.main_arg9) = m ((c.tc : Thread Cert.MixReferenceIdeal.nD Cert.MixReferenceIdeal.τ).loc Cert.MixReferenceIdeal.main_arg9))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7)
      ∧ r.2.mem ((c.tc : Thread Cert.Proj.nD Cert.Proj.τ).loc Cert.Proj.main_arg8) = m ((c.tc : Thread Cert.Proj.nD Cert.Proj.τ).loc Cert.Proj.main_arg8)
      ∧ r.2.mem ((c.tc : Thread Cert.Proj.nD Cert.Proj.τ).loc Cert.Proj.main_arg9) = m ((c.tc : Thread Cert.Proj.nD Cert.Proj.τ).loc Cert.Proj.main_arg9)
      ∧ r.2.mem ((c.tc : Thread Cert.Proj.nD Cert.Proj.τ).loc Cert.Proj.main_arg10) = m ((c.tc : Thread Cert.Proj.nD Cert.Proj.τ).loc Cert.Proj.main_arg10)
      ∧ r.2.mem ((c.tc : Thread Cert.Proj.nD Cert.Proj.τ).loc Cert.Proj.main_arg11) = m ((c.tc : Thread Cert.Proj.nD Cert.Proj.τ).loc Cert.Proj.main_arg11))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
      ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9)
      ∧ r.2.mem ((c.tc : Thread Cert.ProjIdeal.nD Cert.ProjIdeal.τ).loc Cert.ProjIdeal.main_arg10) = m ((c.tc : Thread Cert.ProjIdeal.nD Cert.ProjIdeal.τ).loc Cert.ProjIdeal.main_arg10)
      ∧ r.2.mem ((c.tc : Thread Cert.ProjIdeal.nD Cert.ProjIdeal.τ).loc Cert.ProjIdeal.main_arg11) = m ((c.tc : Thread Cert.ProjIdeal.nD Cert.ProjIdeal.τ).loc Cert.ProjIdeal.main_arg11))
      ∧ r.2.sem = fun _ => 0)

def quiescent_Rwkv [hRwkv : Cert.Rwkv.Facts] : Prop :=
  ∀ (m : (ℓ : Loc Cert.Rwkv.nD Cert.Rwkv.τ Cert.Rwkv.sig) → Buf (Elt Bits) ℓ) (g : Dev Cert.Rwkv.nD → PrngReg), Pre_Rwkv m →
    θ_run (Cert.Rwkv.defs (F := Bits)) (onTc (τ := Cert.Rwkv.τ) (Cert.Rwkv.main (F := Bits))) ⟨m, fun _ => 0, g⟩ (fun r => (∀ c : Dev Cert.Rwkv.nD,
      r.2.mem ((c.tc : Thread Cert.Rwkv.nD Cert.Rwkv.τ).loc Cert.Rwkv.main_arg0) = m ((c.tc : Thread Cert.Rwkv.nD Cert.Rwkv.τ).loc Cert.Rwkv.main_arg0)
      ∧ r.2.mem ((c.tc : Thread Cert.Rwkv.nD Cert.Rwkv.τ).loc Cert.Rwkv.main_arg1) = m ((c.tc : Thread Cert.Rwkv.nD Cert.Rwkv.τ).loc Cert.Rwkv.main_arg1)
      ∧ r.2.mem ((c.tc : Thread Cert.Rwkv.nD Cert.Rwkv.τ).loc Cert.Rwkv.main_arg2) = m ((c.tc : Thread Cert.Rwkv.nD Cert.Rwkv.τ).loc Cert.Rwkv.main_arg2)
      ∧ r.2.mem ((c.tc : Thread Cert.Rwkv.nD Cert.Rwkv.τ).loc Cert.Rwkv.main_arg3) = m ((c.tc : Thread Cert.Rwkv.nD Cert.Rwkv.τ).loc Cert.Rwkv.main_arg3)
      ∧ r.2.mem ((c.tc : Thread Cert.Rwkv.nD Cert.Rwkv.τ).loc Cert.Rwkv.main_arg4) = m ((c.tc : Thread Cert.Rwkv.nD Cert.Rwkv.τ).loc Cert.Rwkv.main_arg4)
      ∧ r.2.mem ((c.tc : Thread Cert.Rwkv.nD Cert.Rwkv.τ).loc Cert.Rwkv.main_arg5) = m ((c.tc : Thread Cert.Rwkv.nD Cert.Rwkv.τ).loc Cert.Rwkv.main_arg5)
      ∧ r.2.mem ((c.tc : Thread Cert.Rwkv.nD Cert.Rwkv.τ).loc Cert.Rwkv.main_arg6) = m ((c.tc : Thread Cert.Rwkv.nD Cert.Rwkv.τ).loc Cert.Rwkv.main_arg6)
      ∧ r.2.mem ((c.tc : Thread Cert.Rwkv.nD Cert.Rwkv.τ).loc Cert.Rwkv.main_arg7) = m ((c.tc : Thread Cert.Rwkv.nD Cert.Rwkv.τ).loc Cert.Rwkv.main_arg7)
      ∧ r.2.mem ((c.tc : Thread Cert.Rwkv.nD Cert.Rwkv.τ).loc Cert.Rwkv.main_arg8) = m ((c.tc : Thread Cert.Rwkv.nD Cert.Rwkv.τ).loc Cert.Rwkv.main_arg8)
      ∧ r.2.mem ((c.tc : Thread Cert.Rwkv.nD Cert.Rwkv.τ).loc Cert.Rwkv.main_arg9) = m ((c.tc : Thread Cert.Rwkv.nD Cert.Rwkv.τ).loc Cert.Rwkv.main_arg9)
      ∧ r.2.mem ((c.tc : Thread Cert.Rwkv.nD Cert.Rwkv.τ).loc Cert.Rwkv.main_arg10) = m ((c.tc : Thread Cert.Rwkv.nD Cert.Rwkv.τ).loc Cert.Rwkv.main_arg10)
      ∧ r.2.mem ((c.tc : Thread Cert.Rwkv.nD Cert.Rwkv.τ).loc Cert.Rwkv.main_arg11) = m ((c.tc : Thread Cert.Rwkv.nD Cert.Rwkv.τ).loc Cert.Rwkv.main_arg11))
      ∧ r.2.sem = fun _ => 0)

def quiescent_RwkvIdeal [hRwkvIdeal : Cert.RwkvIdeal.Facts] : Prop :=
  ∀ (m : (ℓ : Loc Cert.RwkvIdeal.nD Cert.RwkvIdeal.τ Cert.RwkvIdeal.sig) → Buf (Elt Ideal) ℓ) (g : Dev Cert.RwkvIdeal.nD → PrngReg), Pre_RwkvIdeal m →
    θ_run (Cert.RwkvIdeal.defs (F := Ideal)) (onTc (τ := Cert.RwkvIdeal.τ) (Cert.RwkvIdeal.main (F := Ideal))) ⟨m, fun _ => 0, g⟩ (fun r => (∀ c : Dev Cert.RwkvIdeal.nD,
      r.2.mem ((c.tc : Thread Cert.RwkvIdeal.nD Cert.RwkvIdeal.τ).loc Cert.RwkvIdeal.main_arg0) = m ((c.tc : Thread Cert.RwkvIdeal.nD Cert.RwkvIdeal.τ).loc Cert.RwkvIdeal.main_arg0)
      ∧ r.2.mem ((c.tc : Thread Cert.RwkvIdeal.nD Cert.RwkvIdeal.τ).loc Cert.RwkvIdeal.main_arg1) = m ((c.tc : Thread Cert.RwkvIdeal.nD Cert.RwkvIdeal.τ).loc Cert.RwkvIdeal.main_arg1)
      ∧ r.2.mem ((c.tc : Thread Cert.RwkvIdeal.nD Cert.RwkvIdeal.τ).loc Cert.RwkvIdeal.main_arg2) = m ((c.tc : Thread Cert.RwkvIdeal.nD Cert.RwkvIdeal.τ).loc Cert.RwkvIdeal.main_arg2)
      ∧ r.2.mem ((c.tc : Thread Cert.RwkvIdeal.nD Cert.RwkvIdeal.τ).loc Cert.RwkvIdeal.main_arg3) = m ((c.tc : Thread Cert.RwkvIdeal.nD Cert.RwkvIdeal.τ).loc Cert.RwkvIdeal.main_arg3)
      ∧ r.2.mem ((c.tc : Thread Cert.RwkvIdeal.nD Cert.RwkvIdeal.τ).loc Cert.RwkvIdeal.main_arg4) = m ((c.tc : Thread Cert.RwkvIdeal.nD Cert.RwkvIdeal.τ).loc Cert.RwkvIdeal.main_arg4)
      ∧ r.2.mem ((c.tc : Thread Cert.RwkvIdeal.nD Cert.RwkvIdeal.τ).loc Cert.RwkvIdeal.main_arg5) = m ((c.tc : Thread Cert.RwkvIdeal.nD Cert.RwkvIdeal.τ).loc Cert.RwkvIdeal.main_arg5)
      ∧ r.2.mem ((c.tc : Thread Cert.RwkvIdeal.nD Cert.RwkvIdeal.τ).loc Cert.RwkvIdeal.main_arg6) = m ((c.tc : Thread Cert.RwkvIdeal.nD Cert.RwkvIdeal.τ).loc Cert.RwkvIdeal.main_arg6)
      ∧ r.2.mem ((c.tc : Thread Cert.RwkvIdeal.nD Cert.RwkvIdeal.τ).loc Cert.RwkvIdeal.main_arg7) = m ((c.tc : Thread Cert.RwkvIdeal.nD Cert.RwkvIdeal.τ).loc Cert.RwkvIdeal.main_arg7)
      ∧ r.2.mem ((c.tc : Thread Cert.RwkvIdeal.nD Cert.RwkvIdeal.τ).loc Cert.RwkvIdeal.main_arg8) = m ((c.tc : Thread Cert.RwkvIdeal.nD Cert.RwkvIdeal.τ).loc Cert.RwkvIdeal.main_arg8)
      ∧ r.2.mem ((c.tc : Thread Cert.RwkvIdeal.nD Cert.RwkvIdeal.τ).loc Cert.RwkvIdeal.main_arg9) = m ((c.tc : Thread Cert.RwkvIdeal.nD Cert.RwkvIdeal.τ).loc Cert.RwkvIdeal.main_arg9)
      ∧ r.2.mem ((c.tc : Thread Cert.RwkvIdeal.nD Cert.RwkvIdeal.τ).loc Cert.RwkvIdeal.main_arg10) = m ((c.tc : Thread Cert.RwkvIdeal.nD Cert.RwkvIdeal.τ).loc Cert.RwkvIdeal.main_arg10)
      ∧ r.2.mem ((c.tc : Thread Cert.RwkvIdeal.nD Cert.RwkvIdeal.τ).loc Cert.RwkvIdeal.main_arg11) = m ((c.tc : Thread Cert.RwkvIdeal.nD Cert.RwkvIdeal.τ).loc Cert.RwkvIdeal.main_arg11))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)
      ∧ m' ((c.tc : Thread Cert.MixReferenceIdeal.nD Cert.MixReferenceIdeal.τ).loc Cert.MixReferenceIdeal.main_arg6) = m ((c.tc : Thread Cert.MixIdeal.nD Cert.MixIdeal.τ).loc Cert.MixIdeal.main_arg6)
      ∧ m' ((c.tc : Thread Cert.MixReferenceIdeal.nD Cert.MixReferenceIdeal.τ).loc Cert.MixReferenceIdeal.main_arg7) = m ((c.tc : Thread Cert.MixIdeal.nD Cert.MixIdeal.τ).loc Cert.MixIdeal.main_arg7)
      ∧ m' ((c.tc : Thread Cert.MixReferenceIdeal.nD Cert.MixReferenceIdeal.τ).loc Cert.MixReferenceIdeal.main_arg8) = m ((c.tc : Thread Cert.MixIdeal.nD Cert.MixIdeal.τ).loc Cert.MixIdeal.main_arg8)
      ∧ m' ((c.tc : Thread Cert.MixReferenceIdeal.nD Cert.MixReferenceIdeal.τ).loc Cert.MixReferenceIdeal.main_arg9) = m ((c.tc : Thread Cert.MixIdeal.nD Cert.MixIdeal.τ).loc Cert.MixIdeal.main_arg9)) →
    ∃ (v0 : (c : Dev Cert.MixIdeal.nD) → Buf (Elt Ideal) ((c.tc : Thread Cert.MixIdeal.nD Cert.MixIdeal.τ).loc Cert.MixIdeal.main_v14)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v14) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v58) = v0 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7)
          ∧ r.2.mem ((c.tc : Thread Cert.MixReferenceIdeal.nD Cert.MixReferenceIdeal.τ).loc Cert.MixReferenceIdeal.main_arg8) = m' ((c.tc : Thread Cert.MixReferenceIdeal.nD Cert.MixReferenceIdeal.τ).loc Cert.MixReferenceIdeal.main_arg8)
          ∧ r.2.mem ((c.tc : Thread Cert.MixReferenceIdeal.nD Cert.MixReferenceIdeal.τ).loc Cert.MixReferenceIdeal.main_arg9) = m' ((c.tc : Thread Cert.MixReferenceIdeal.nD Cert.MixReferenceIdeal.τ).loc Cert.MixReferenceIdeal.main_arg9))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v10)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v10) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v38) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_Proj_ProjIdeal : Prop :=
  True

def preserves_Rwkv_RwkvIdeal : Prop :=
  True

def Claim : Prop :=
  ∃ (hKernel : Cert.Kernel.Facts) (hKernelIdeal : Cert.KernelIdeal.Facts) (hReferenceIdeal : Cert.ReferenceIdeal.Facts) (hMix : Cert.Mix.Facts) (hMixIdeal : Cert.MixIdeal.Facts) (hMixReferenceIdeal : Cert.MixReferenceIdeal.Facts) (hFfn : Cert.Ffn.Facts) (hFfnIdeal : Cert.FfnIdeal.Facts) (hFfnReferenceIdeal : Cert.FfnReferenceIdeal.Facts) (hProj : Cert.Proj.Facts) (hProjIdeal : Cert.ProjIdeal.Facts) (hRwkv : Cert.Rwkv.Facts) (hRwkvIdeal : Cert.RwkvIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Mix (hMix := hMix)
    ∧ quiescent_MixIdeal (hMixIdeal := hMixIdeal)
    ∧ quiescent_MixReferenceIdeal (hMixReferenceIdeal := hMixReferenceIdeal)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Proj (hProj := hProj)
    ∧ quiescent_ProjIdeal (hProjIdeal := hProjIdeal)
    ∧ quiescent_Rwkv (hRwkv := hRwkv)
    ∧ quiescent_RwkvIdeal (hRwkvIdeal := hRwkvIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Mix_MixIdeal
    ∧ algebraic_MixIdeal_MixReferenceIdeal (hMixIdeal := hMixIdeal) (hMixReferenceIdeal := hMixReferenceIdeal)
    ∧ preserves_Ffn_FfnIdeal
    ∧ algebraic_FfnIdeal_FfnReferenceIdeal (hFfnIdeal := hFfnIdeal) (hFfnReferenceIdeal := hFfnReferenceIdeal)
    ∧ preserves_Proj_ProjIdeal
    ∧ preserves_Rwkv_RwkvIdeal
-- ==== Pre_finite.lean ====
abbrev S4x4096x512 : Shape := ⟨3, ![4, 4096, 512]⟩
abbrev S4x512x4096 : Shape := ⟨3, ![4, 512, 4096]⟩
abbrev S64 : Shape := ⟨1, ![64]⟩
abbrev S128 : Shape := ⟨1, ![128]⟩
abbrev S_ : Shape := ⟨0, ![]⟩

class Facts : Prop where
  bitsLt_bf16_f32 : FTy.bits .bf16 < FTy.bits .f32
  bcast_S_S4x4096x512 : S_.BroadcastsInDim S4x4096x512 (![] : Fin 0 → Fin S4x4096x512.rank)
  bcast_S_S4x512x4096 : S_.BroadcastsInDim S4x512x4096 (![] : Fin 0 → Fin S4x512x4096.rank)
  bcast_S_S64 : S_.BroadcastsInDim S64 (![] : Fin 0 → Fin S64.rank)

variable [Facts]

def fn_part1 {F : FTy → Type} [FloatOps F] (main_arg6 : FVec F S64 .f32) (main_v3 : IVec S4x4096x512 1) (main_v7 : IVec S4x4096x512 1) (main_v11 : IVec S4x512x4096 1) (main_v14 : IVec S64 1) (main_v17 : IVec S64 1) (main_v18 : FVec F S64 .f32) : IVec S4x4096x512 1 × IVec S4x4096x512 1 × IVec S4x512x4096 1 × IVec S64 1 × IVec S64 1 × IVec S64 1 × IVec S64 1 :=
  let main_cst_4 : FVec F S_ .f32 := constant S_ .f32 0x7F800000#32
  let main_v19 : FVec F S64 .f32 := broadcastInDim S64 ![] bcast_S_S64 main_cst_4
  let main_v20 : IVec S64 1 := cmpf .olt main_v18 main_v19
  let main_v21 : FVec F S64 .f32 := Host.absf main_arg6
  let main_cst_5 : FVec F S_ .f32 := constant S_ .f32 0x7F800000#32
  let main_v22 : FVec F S64 .f32 := broadcastInDim S64 ![] bcast_S_S64 main_cst_5
  let main_v23 : IVec S64 1 := cmpf .olt main_v21 main_v22
  (main_v3, main_v7, main_v11, main_v14, main_v17, main_v20, main_v23)

def fn {F : FTy → Type} [FloatOps F] (main_arg0 : FVec F S4x4096x512 .bf16) (main_arg1 : FVec F S4x4096x512 .bf16) (main_arg2 : FVec F S4x512x4096 .bf16) (main_arg3 : FVec F S64 .f32) (main_arg4 : FVec F S64 .f32) (main_arg5 : FVec F S64 .f32) (main_arg6 : FVec F S64 .f32) (main_arg7 : FVec F S128 .f32) : IVec S4x4096x512 1 × IVec S4x4096x512 1 × IVec S4x512x4096 1 × IVec S64 1 × IVec S64 1 × IVec S64 1 × IVec S64 1 :=
  let main_v0 : FVec F S4x4096x512 .f32 := (extf .f32 · bitsLt_bf16_f32) main_arg0
  let main_v1 : FVec F S4x4096x512 .f32 := Host.absf main_v0
  let main_cst : FVec F S_ .f32 := constant S_ .f32 0x7F800000#32
  let main_v2 : FVec F S4x4096x512 .f32 := broadcastInDim S4x4096x512 ![] bcast_S_S4x4096x512 main_cst
  let main_v3 : IVec S4x4096x512 1 := cmpf .olt main_v1 main_v2
  let main_v4 : FVec F S4x4096x512 .f32 := (extf .f32 · bitsLt_bf16_f32) main_arg1
  let main_v5 : FVec F S4x4096x512 .f32 := Host.absf main_v4
  let main_cst_0 : FVec F S_ .f32 := constant S_ .f32 0x7F800000#32
  let main_v6 : FVec F S4x4096x512 .f32 := broadcastInDim S4x4096x512 ![] bcast_S_S4x4096x512 main_cst_0
  let main_v7 : IVec S4x4096x512 1 := cmpf .olt main_v5 main_v6
  let main_v8 : FVec F S4x512x4096 .f32 := (extf .f32 · bitsLt_bf16_f32) main_arg2
  let main_v9 : FVec F S4x512x4096 .f32 := Host.absf main_v8
  let main_cst_1 : FVec F S_ .f32 := constant S_ .f32 0x7F800000#32
  let main_v10 : FVec F S4x512x4096 .f32 := broadcastInDim S4x512x4096 ![] bcast_S_S4x512x4096 main_cst_1
  let main_v11 : IVec S4x512x4096 1 := cmpf .olt main_v9 main_v10
  let main_v12 : FVec F S64 .f32 := Host.absf main_arg3
  let main_cst_2 : FVec F S_ .f32 := constant S_ .f32 0x7F800000#32
  let main_v13 : FVec F S64 .f32 := broadcastInDim S64 ![] bcast_S_S64 main_cst_2
  let main_v14 : IVec S64 1 := cmpf .olt main_v12 main_v13
  let main_v15 : FVec F S64 .f32 := Host.absf main_arg4
  let main_cst_3 : FVec F S_ .f32 := constant S_ .f32 0x7F800000#32
  let main_v16 : FVec F S64 .f32 := broadcastInDim S64 ![] bcast_S_S64 main_cst_3
  let main_v17 : IVec S64 1 := cmpf .olt main_v15 main_v16
  let main_v18 : FVec F S64 .f32 := Host.absf main_arg5
  fn_part1 (F := F) main_arg6 main_v3 main_v7 main_v11 main_v14 main_v17 main_v18
-- ==== Kernel.lean ====
abbrev S4x4096x512 : Shape := ⟨3, ![4, 4096, 512]⟩
abbrev S4x512x4096 : Shape := ⟨3, ![4, 512, 4096]⟩
abbrev S64 : Shape := ⟨1, ![64]⟩
abbrev S128 : Shape := ⟨1, ![128]⟩
abbrev S1x64 : Shape := ⟨2, ![1, 64]⟩
abbrev S128x1 : Shape := ⟨2, ![128, 1]⟩
abbrev S1x4096x128 : Shape := ⟨3, ![1, 4096, 128]⟩
abbrev S1x128x4096 : Shape := ⟨3, ![1, 128, 4096]⟩
abbrev S2x2x144x2048 : Shape := ⟨4, ![2, 2, 144, 2048]⟩
abbrev S2x2x512x2048 : Shape := ⟨4, ![2, 2, 512, 2048]⟩
abbrev S2x2x1x2048 : Shape := ⟨4, ![2, 2, 1, 2048]⟩
abbrev S1x128 : Shape := ⟨2, ![1, 128]⟩
abbrev S1 : Shape := ⟨1, ![1]⟩
abbrev S1x1 : Shape := ⟨2, ![1, 1]⟩
abbrev S16x512 : Shape := ⟨2, ![16, 512]⟩
abbrev S1x512x128 : Shape := ⟨3, ![1, 512, 128]⟩
abbrev S512x128 : Shape := ⟨2, ![512, 128]⟩
abbrev S1x2048x128 : Shape := ⟨3, ![1, 2048, 128]⟩
abbrev S2048x128 : Shape := ⟨2, ![2048, 128]⟩
abbrev S512x2048 : Shape := ⟨2, ![512, 2048]⟩
abbrev S1x1x512x2048 : Shape := ⟨4, ![1, 1, 512, 2048]⟩
abbrev S1536x128 : Shape := ⟨2, ![1536, 128]⟩
abbrev S512x1536 : Shape := ⟨2, ![512, 1536]⟩
abbrev S1x1x512x1536 : Shape := ⟨4, ![1, 1, 512, 1536]⟩
abbrev S1x1x256x256 : Shape := ⟨4, ![1, 1, 256, 256]⟩
abbrev S256x256 : Shape := ⟨2, ![256, 256]⟩
abbrev S1x1x1x256 : Shape := ⟨4, ![1, 1, 1, 256]⟩
abbrev S1x256 : Shape := ⟨2, ![1, 256]⟩
abbrev S256 : Shape := ⟨1, ![256]⟩
abbrev S1x128x256 : Shape := ⟨3, ![1, 128, 256]⟩
abbrev S128x256 : Shape := ⟨2, ![128, 256]⟩
abbrev S16x256 : Shape := ⟨2, ![16, 256]⟩
abbrev S144x256 : Shape := ⟨2, ![144, 256]⟩
abbrev S1x1x144x256 : Shape := ⟨4, ![1, 1, 144, 256]⟩
abbrev S1x1x512x256 : Shape := ⟨4, ![1, 1, 512, 256]⟩
abbrev S512x256 : Shape := ⟨2, ![512, 256]⟩
abbrev S1x128x512 : Shape := ⟨3, ![1, 128, 512]⟩
abbrev S128x512 : Shape := ⟨2, ![128, 512]⟩
abbrev S144x512 : Shape := ⟨2, ![144, 512]⟩
abbrev S1024x128 : Shape := ⟨2, ![1024, 128]⟩
abbrev S512x1024 : Shape := ⟨2, ![512, 1024]⟩
abbrev S1x1x512x1024 : Shape := ⟨4, ![1, 1, 512, 1024]⟩
abbrev S512x512 : Shape := ⟨2, ![512, 512]⟩
abbrev S1x1x512x512 : Shape := ⟨4, ![1, 1, 512, 512]⟩
abbrev S1x1x1x2048 : Shape := ⟨4, ![1, 1, 1, 2048]⟩
abbrev S1x2048 : Shape := ⟨2, ![1, 2048]⟩
abbrev S1x1x128x2048 : Shape := ⟨4, ![1, 1, 128, 2048]⟩
abbrev S128x2048 : Shape := ⟨2, ![128, 2048]⟩
abbrev S2048 : Shape := ⟨1, ![2048]⟩

abbrev nBuf : Space → Nat
  | .hbm => 14
  | .vmem => 16
  | .smem => 0
  | _ => 0

abbrev bufTy : (tb : Table) → Fin (tcTables nBuf tb) → BufTy
  | .hbm, ⟨0, _⟩ => ⟨S4x4096x512, .bf16⟩
  | .hbm, ⟨1, _⟩ => ⟨S4x4096x512, .bf16⟩
  | .hbm, ⟨2, _⟩ => ⟨S4x512x4096, .bf16⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S1x64, .f32⟩
  | .hbm, ⟨9, _⟩ => ⟨S1x64, .f32⟩
  | .hbm, ⟨10, _⟩ => ⟨S1x64, .f32⟩
  | .hbm, ⟨11, _⟩ => ⟨S1x64, .f32⟩
  | .hbm, ⟨12, _⟩ => ⟨S128x1, .f32⟩
  | .hbm, ⟨13, _⟩ => ⟨S4x4096x512, .bf16⟩
  | .local _ .vmem, ⟨0, _⟩ => ⟨S1x64, .f32⟩
  | .local _ .vmem, ⟨1, _⟩ => ⟨S1x64, .f32⟩
  | .local _ .vmem, ⟨2, _⟩ => ⟨S1x64, .f32⟩
  | .local _ .vmem, ⟨3, _⟩ => ⟨S1x64, .f32⟩
  | .local _ .vmem, ⟨4, _⟩ => ⟨S1x4096x128, .bf16⟩
  | .local _ .vmem, ⟨5, _⟩ => ⟨S1x4096x128, .bf16⟩
  | .local _ .vmem, ⟨6, _⟩ => ⟨S1x4096x128, .bf16⟩
  | .local _ .vmem, ⟨7, _⟩ => ⟨S1x4096x128, .bf16⟩
  | .local _ .vmem, ⟨8, _⟩ => ⟨S1x128x4096, .bf16⟩
  | .local _ .vmem, ⟨9, _⟩ => ⟨S1x128x4096, .bf16⟩
  | .local _ .vmem, ⟨10, _⟩ => ⟨S128x1, .f32⟩
  | .local _ .vmem, ⟨11, _⟩ => ⟨S1x4096x128, .bf16⟩
  | .local _ .vmem, ⟨12, _⟩ => ⟨S1x4096x128, .bf16⟩
  | .local _ .vmem, ⟨13, _⟩ => ⟨S2x2x144x2048, .f32⟩
  | .local _ .vmem, ⟨14, _⟩ => ⟨S2x2x512x2048, .f32⟩
  | .local _ .vmem, ⟨15, _⟩ => ⟨S2x2x1x2048, .f32⟩
  | _, _ => ⟨S4x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x4096x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4x4096x512 : Shape := ⟨3, ![4, 4096, 512]⟩
abbrev S4x512x4096 : Shape := ⟨3, ![4, 512, 4096]⟩
abbrev S64 : Shape := ⟨1, ![64]⟩
abbrev S128 : Shape := ⟨1, ![128]⟩
abbrev S4x4096x4x2x64 : Shape := ⟨5, ![4, 4096, 4, 2, 64]⟩
abbrev S4x4x128x4096 : Shape := ⟨4, ![4, 4, 128, 4096]⟩
abbrev S_ : Shape := ⟨0, ![]⟩
abbrev S4x4x2x4096x4096 : Shape := ⟨5, ![4, 4, 2, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x4x2x4096 : Shape := ⟨4, ![4, 4, 2, 4096]⟩
abbrev S4x4x2x4096x1 : Shape := ⟨5, ![4, 4, 2, 4096, 1]⟩
abbrev S4x4x1x4096x4096 : Shape := ⟨5, ![4, 4, 1, 4096, 4096]⟩
abbrev S4x4x4096x4096 : Shape := ⟨4, ![4, 4, 4096, 4096]⟩
abbrev S4x4096x4x128 : Shape := ⟨4, ![4, 4096, 4, 128]⟩
abbrev S4x4096x4 : Shape := ⟨3, ![4, 4096, 4]⟩
abbrev S4x4096x4x1 : Shape := ⟨4, ![4, 4096, 4, 1]⟩
abbrev S1x1x1x128 : Shape := ⟨4, ![1, 1, 1, 128]⟩

abbrev nBuf : Space → Nat
  | .hbm => 80
  | .vmem => 0
  | .smem => 0
  | _ => 0

abbrev bufTy : (tb : Table) → Fin (tcTables nBuf tb) → BufTy
  | .hbm, ⟨0, _⟩ => ⟨S4x4096x512, .bf16⟩
  | .hbm, ⟨1, _⟩ => ⟨S4x4096x512, .bf16⟩
  | .hbm, ⟨2, _⟩ => ⟨S4x512x4096, .bf16⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S4x4096x512, .f32⟩
  | .hbm, ⟨9, _⟩ => ⟨S4x4096x4x2x64, .f32⟩
  | .hbm, ⟨10, _⟩ => ⟨S4x4096x512, .f32⟩
  | .hbm, ⟨11, _⟩ => ⟨S4x4096x4x2x64, .f32⟩
  | .hbm, ⟨12, _⟩ => ⟨S4x512x4096, .f32⟩
  | .hbm, ⟨13, _⟩ => ⟨S4x4x128x4096, .f32⟩
  | .hbm, ⟨14, _⟩ => ⟨S64, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S4x4x2x4096x4096, .f32⟩
  | .hbm, ⟨26, _⟩ => ⟨S4096, .i32⟩
  | .hbm, ⟨27, _⟩ => ⟨S1x4096, .i32⟩
  | .hbm, ⟨28, _⟩ => ⟨S4096x1, .i32⟩
  | .hbm, ⟨29, _⟩ => ⟨S4096x4096, .i32⟩
  | .hbm, ⟨30, _⟩ => ⟨S4096x4096, .i32⟩
  | .hbm, ⟨31, _⟩ => ⟨S4096x4096, .i1⟩
  | .hbm, ⟨32, _⟩ => ⟨S_, .f32⟩
  | .hbm, ⟨33, _⟩ => ⟨S_, .f32⟩
  | .hbm, ⟨34, _⟩ => ⟨S4x4x2x4096x4096, .i1⟩
  | .hbm, ⟨35, _⟩ => ⟨S4x4x2x4096x4096, .f32⟩
  | .hbm, ⟨36, _⟩ => ⟨S4x4x2x4096x4096, .f32⟩
  | .hbm, ⟨37, _⟩ => ⟨S_, .f32⟩
  | .hbm, ⟨38, _⟩ => ⟨S4x4x2x4096, .f32⟩
  | .hbm, ⟨39, _⟩ => ⟨S4x4x2x4096x1, .f32⟩
  | .hbm, ⟨40, _⟩ => ⟨S4x4x2x4096x4096, .f32⟩
  | .hbm, ⟨41, _⟩ => ⟨S4x4x2x4096x4096, .f32⟩
  | .hbm, ⟨42, _⟩ => ⟨S_, .f32⟩
  | .hbm, ⟨43, _⟩ => ⟨S4x4x2x4096x4096, .f32⟩
  | .hbm, ⟨44, _⟩ => ⟨S4x4x2x4096x4096, .f32⟩
  | .hbm, ⟨45, _⟩ => ⟨S_, .f32⟩
  | .hbm, ⟨46, _⟩ => ⟨S4x4x2x4096, .f32⟩
  | .hbm, ⟨47, _⟩ => ⟨S4x4x2x4096x1, .f32⟩
  | .hbm, ⟨48, _⟩ => ⟨S4x4x2x4096x4096, .f32⟩
  | .hbm, ⟨49, _⟩ => ⟨S4x4x2x4096x4096, .f32⟩
  | .hbm, ⟨50, _⟩ => ⟨S4x4x1x4096x4096, .f32⟩
  | .hbm, ⟨51, _⟩ => ⟨S4x4x4096x4096, .f32⟩
  | .hbm, ⟨52, _⟩ => ⟨S4x4x1x4096x4096, .f32⟩
  | .hbm, ⟨53, _⟩ => ⟨S4x4x4096x4096, .f32⟩
  | .hbm, ⟨54, _⟩ => ⟨S4x4x4096x4096, .f32⟩
  | .hbm, ⟨55, _⟩ => ⟨S4x4x4096x4096, .f32⟩
  | .hbm, ⟨56, _⟩ => ⟨S4x4x4096x4096, .f32⟩
  | .hbm, ⟨57, _⟩ => ⟨S4x4x128x4096, .f32⟩
  | .hbm, ⟨58, _⟩ => ⟨S4x4096x4x128, .f32⟩
  | .hbm, ⟨59, _⟩ => ⟨S4x4096x4x128, .f32⟩
  | .hbm, ⟨60, _⟩ => ⟨S_, .f32⟩
  | .hbm, ⟨61, _⟩ => ⟨S4x4096x4, .f32⟩
  | .hbm, ⟨62, _⟩ => ⟨S4x4096x4x1, .f32⟩
  | .hbm, ⟨63, _⟩ => ⟨S_, .f32⟩
  | .hbm, ⟨64, _⟩ => ⟨S4x4096x4x1, .f32⟩
  | .hbm, ⟨65, _⟩ => ⟨S4x4096x4x1, .f32⟩
  | .hbm, ⟨66, _⟩ => ⟨S_, .f32⟩
  | .hbm, ⟨67, _⟩ => ⟨S4x4096x4x1, .f32⟩
  | .hbm, ⟨68, _⟩ => ⟨S4x4096x4x1, .f32⟩
  | .hbm, ⟨69, _⟩ => ⟨S4x4096x4x1, .f32⟩
  | .hbm, ⟨70, _⟩ => ⟨S4x4096x4x128, .f32⟩
  | .hbm, ⟨71, _⟩ => ⟨S4x4096x4x128, .f32⟩
  | .hbm, ⟨72, _⟩ => ⟨S1x1x1x128, .f32⟩
  | .hbm, ⟨73, _⟩ => ⟨S4x4096x4x128, .f32⟩
  | .hbm, ⟨74, _⟩ => ⟨S4x4096x4x128, .f32⟩
  | .hbm, ⟨75, _⟩ => ⟨S_, .f32⟩
  | .hbm, ⟨76, _⟩ => ⟨S4x4096x4x128, .f32⟩
  | .hbm, ⟨77, _⟩ => ⟨S4x4096x4x128, .f32⟩
  | .hbm, ⟨78, _⟩ => ⟨S4x4096x512, .f32⟩
  | .hbm, ⟨79, _⟩ => ⟨S4x4096x512, .bf16⟩
  | _, _ => ⟨S4x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_6 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_v45 : Ref sig .tc := ⟨.hbm, 65, rfl⟩
abbrev main_cst_8 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_9 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩

abbrev nD : Nat := 1
abbrev τ : Topo := Topo.v7x

variable {F : FTy → Type} [FloatOps F]
-- ==== Mix.lean ====
abbrev S16384x1024 : Shape := ⟨2, ![16384, 1024]⟩
abbrev S16384x512 : Shape := ⟨2, ![16384, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S1024x2816 : Shape := ⟨2, ![1024, 2816]⟩
abbrev S2816x1024 : Shape := ⟨2, ![2816, 1024]⟩
abbrev S1024x1024 : Shape := ⟨2, ![1024, 1024]⟩
abbrev S1024x512 : Shape := ⟨2, ![1024, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S512x2816 : Shape := ⟨2, ![512, 2816]⟩

abbrev nBuf : Space → Nat
  | .hbm => 25
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S1x1024x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024x2816, .f32⟩
  | .hbm, ⟨8, _⟩ => ⟨S1x1024x2816, .f32⟩
  | .hbm, ⟨9, _⟩ => ⟨S1x2816x1024, .f32⟩
  | .hbm, ⟨10, _⟩ => ⟨S1024, .f32⟩
  | .hbm, ⟨11, _⟩ => ⟨S1024, .f32⟩
  | .hbm, ⟨12, _⟩ => ⟨S1024x2816, .f32⟩
  | .hbm, ⟨13, _⟩ => ⟨S1024x2816, .f32⟩
  | .hbm, ⟨14, _⟩ => ⟨S2816x1024, .f32⟩
  | .hbm, ⟨15, _⟩ => ⟨S1024x1024, .f32⟩
  | .hbm, ⟨16, _⟩ => ⟨S1024, .f32⟩
  | .hbm, ⟨17, _⟩ => ⟨S1024x1024, .bf16⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1024x2816, .bf16⟩
  | .hbm, ⟨22, _⟩ => ⟨S1024x2816, .bf16⟩
  | .hbm, ⟨23, _⟩ => ⟨S2816x1024, .bf16⟩
  | .hbm, ⟨24, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1024x2816, .bf16⟩
  | .local _ .vmem, ⟨11, _⟩ => ⟨S1024x2816, .bf16⟩
  | .local _ .vmem, ⟨12, _⟩ => ⟨S2816x1024, .bf16⟩
  | .local _ .vmem, ⟨13, _⟩ => ⟨S1024x1024, .f32⟩
  | .local _ .vmem, ⟨14, _⟩ => ⟨S1024x1024, .f32⟩
  | .local _ .vmem, ⟨15, _⟩ => ⟨S1024x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MixReferenceIdeal.lean ====
abbrev S16384x1024 : Shape := ⟨2, ![16384, 1024]⟩
abbrev S16384x512 : Shape := ⟨2, ![16384, 512]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024x1024 : Shape := ⟨2, ![1024, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x2816 : Shape := ⟨2, ![1024, 2816]⟩
abbrev S2816x1024 : Shape := ⟨2, ![2816, 1024]⟩
abbrev S16384x2816 : Shape := ⟨2, ![16384, 2816]⟩

abbrev nBuf : Space → Nat
  | .hbm => 87
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S1x1024x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024x2816, .f32⟩
  | .hbm, ⟨8, _⟩ => ⟨S1x1024x2816, .f32⟩
  | .hbm, ⟨9, _⟩ => ⟨S1x2816x1024, .f32⟩
  | .hbm, ⟨10, _⟩ => ⟨S16384x512, .f32⟩
  | .hbm, ⟨11, _⟩ => ⟨S16384x512, .f32⟩
  | .hbm, ⟨12, _⟩ => ⟨S16384x1024, .f32⟩
  | .hbm, ⟨13, _⟩ => ⟨S1024x1024, .f32⟩
  | .hbm, ⟨14, _⟩ => ⟨S16384x1024, .f32⟩
  | .hbm, ⟨15, _⟩ => ⟨S1024, .f32⟩
  | .hbm, ⟨16, _⟩ => ⟨S16384x1024, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x1, .f32⟩
  | .hbm, ⟨27, _⟩ => ⟨S16384x1024, .f32⟩
  | .hbm, ⟨28, _⟩ => ⟨S16384x1024, .f32⟩
  | .hbm, ⟨29, _⟩ => ⟨S1x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S1024, .f32⟩
  | .hbm, ⟨34, _⟩ => ⟨S16384x1024, .f32⟩
  | .hbm, ⟨35, _⟩ => ⟨S_, .f32⟩
  | .hbm, ⟨36, _⟩ => ⟨S16384, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S16384x1, .f32⟩
  | .hbm, ⟨45, _⟩ => ⟨S16384x1024, .f32⟩
  | .hbm, ⟨46, _⟩ => ⟨S16384x1024, .f32⟩
  | .hbm, ⟨47, _⟩ => ⟨S1x1024, .f32⟩
  | .hbm, ⟨48, _⟩ => ⟨S16384x1024, .f32⟩
  | .hbm, ⟨49, _⟩ => ⟨S16384x1024, .f32⟩
  | .hbm, ⟨50, _⟩ => ⟨S1024x2816, .f32⟩
  | .hbm, ⟨51, _⟩ => ⟨S1024x2816, .f32⟩
  | .hbm, ⟨52, _⟩ => ⟨S2816x1024, .f32⟩
  | .hbm, ⟨53, _⟩ => ⟨S16384x2816, .f32⟩
  | .hbm, ⟨54, _⟩ => ⟨S16384x2816, .f32⟩
  | .hbm, ⟨55, _⟩ => ⟨S16384x2816, .f32⟩
  | .hbm, ⟨56, _⟩ => ⟨S_, .f32⟩
  | .hbm, ⟨57, _⟩ => ⟨S16384x2816, .f32⟩
  | .hbm, ⟨58, _⟩ => ⟨S16384x2816, .f32⟩
  | .hbm, ⟨59, _⟩ => ⟨S_, .f32⟩
  | .hbm, ⟨60, _⟩ => ⟨S16384x2816, .f32⟩
  | .hbm, ⟨61, _⟩ => ⟨S16384x2816, .f32⟩
  | .hbm, ⟨62, _⟩ => ⟨S16384x2816, .f32⟩
  | .hbm, ⟨63, _⟩ => ⟨S16384x2816, .f32⟩
  | .hbm, ⟨64, _⟩ => ⟨S16384x2816, .f32⟩
  | .hbm, ⟨65, _⟩ => ⟨S16384x1024, .f32⟩
  | .hbm, ⟨66, _⟩ => ⟨S1024, .f32⟩
  | .hbm, ⟨67, _⟩ => ⟨S16384x1024, .f32⟩
  | .hbm, ⟨68, _⟩ => ⟨S_, .f32⟩
  | .hbm, ⟨69, _⟩ => ⟨S16384, .f32⟩
  | .hbm, ⟨70, _⟩ => ⟨S16384x1, .f32⟩
  | .hbm, ⟨71, _⟩ => ⟨S_, .f32⟩
  | .hbm, ⟨72, _⟩ => ⟨S16384x1, .f32⟩
  | .hbm, ⟨73, _⟩ => ⟨S16384x1, .f32⟩
  | .hbm, ⟨74, _⟩ => ⟨S_, .f32⟩
  | .hbm, ⟨75, _⟩ => ⟨S16384x1, .f32⟩
  | .hbm, ⟨76, _⟩ => ⟨S16384x1, .f32⟩
  | .hbm, ⟨77, _⟩ => ⟨S16384x1, .f32⟩
  | .hbm, ⟨78, _⟩ => ⟨S16384x1024, .f32⟩
  | .hbm, ⟨79, _⟩ => ⟨S16384x1024, .f32⟩
  | .hbm, ⟨80, _⟩ => ⟨S1x1024, .f32⟩
  | .hbm, ⟨81, _⟩ => ⟨S16384x1024, .f32⟩
  | .hbm, ⟨82, _⟩ => ⟨S16384x1024, .f32⟩
  | .hbm, ⟨83, _⟩ => ⟨S_, .f32⟩
  | .hbm, ⟨84, _⟩ => ⟨S16384x1024, .f32⟩
  | .hbm, ⟨85, _⟩ => ⟨S16384x1024, .f32⟩
  | .hbm, ⟨86, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_call0_v0 : Ref sig .tc := ⟨.hbm, 54, rfl⟩
abbrev main_call0_v1 : Ref sig .tc := ⟨.hbm, 55, rfl⟩
abbrev main_call0_cst : Ref sig .tc := ⟨.hbm, 56, rfl⟩
abbrev main_call0_v2 : Ref sig .tc := ⟨.hbm, 57, rfl⟩
abbrev main_call0_v3 : Ref sig .tc := ⟨.hbm, 58, rfl⟩
abbrev main_call0_cst_0 : Ref sig .tc := ⟨.hbm, 59, rfl⟩
abbrev main_call0_v4 : Ref sig .tc := ⟨.hbm, 60, rfl⟩
abbrev main_call0_v5 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_5 : Ref sig .tc := ⟨.hbm, 68, rfl⟩
abbrev main_v44 : Ref sig .tc := ⟨.hbm, 69, rfl⟩
abbrev main_v45 : Ref sig .tc := ⟨.hbm, 70, rfl⟩
abbrev main_cst_6 : Ref sig .tc := ⟨.hbm, 71, rfl⟩
abbrev main_v46 : Ref sig .tc := ⟨.hbm, 72, rfl⟩
abbrev main_v47 : Ref sig .tc := ⟨.hbm, 73, rfl⟩
abbrev main_cst_7 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_8 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩

abbrev nD : Nat := 1
abbrev τ : Topo := Topo.v7x

variable {F : FTy → Type} [FloatOps F]
-- ==== Ffn.lean ====
abbrev S16384x1024 : Shape := ⟨2, ![16384, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S1024x2816 : Shape := ⟨2, ![1024, 2816]⟩
abbrev S2816x1024 : Shape := ⟨2, ![2816, 1024]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S512x2816 : Shape := ⟨2, ![512, 2816]⟩

abbrev nBuf : Space → Nat
  | .hbm => 17
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1x1024x2816, .f32⟩
  | .hbm, ⟨4, _⟩ => ⟨S1x1024x2816, .f32⟩
  | .hbm, ⟨5, _⟩ => ⟨S1x2816x1024, .f32⟩
  | .hbm, ⟨6, _⟩ => ⟨S1024, .f32⟩
  | .hbm, ⟨7, _⟩ => ⟨S1024, .f32⟩
  | .hbm, ⟨8, _⟩ => ⟨S1024x2816, .f32⟩
  | .hbm, ⟨9, _⟩ => ⟨S1024x2816, .f32⟩
  | .hbm, ⟨10, _⟩ => ⟨S2816x1024, .f32⟩
  | .hbm, ⟨11, _⟩ => ⟨S1x1024, .f32⟩
  | .hbm, ⟨12, _⟩ => ⟨S1x1024, .f32⟩
  | .hbm, ⟨13, _⟩ => ⟨S1024x2816, .bf16⟩
  | .hbm, ⟨14, _⟩ => ⟨S1024x2816, .bf16⟩
  | .hbm, ⟨15, _⟩ => ⟨S2816x1024, .bf16⟩
  | .hbm, ⟨16, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1024x2816, .bf16⟩
  | .local _ .vmem, ⟨5, _⟩ => ⟨S1024x2816, .bf16⟩
  | .local _ .vmem, ⟨6, _⟩ => ⟨S2816x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnReferenceIdeal.lean ====
abbrev S16384x1024 : Shape := ⟨2, ![16384, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x2816 : Shape := ⟨2, ![1024, 2816]⟩
abbrev S2816x1024 : Shape := ⟨2, ![2816, 1024]⟩
abbrev S16384x2816 : Shape := ⟨2, ![16384, 2816]⟩

abbrev nBuf : Space → Nat
  | .hbm => 60
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024, .f32⟩
  | .hbm, ⟨3, _⟩ => ⟨S1x1024x2816, .f32⟩
  | .hbm, ⟨4, _⟩ => ⟨S1x1024x2816, .f32⟩
  | .hbm, ⟨5, _⟩ => ⟨S1x2816x1024, .f32⟩
  | .hbm, ⟨6, _⟩ => ⟨S1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S1024x2816, .f32⟩
  | .hbm, ⟨24, _⟩ => ⟨S1024x2816, .f32⟩
  | .hbm, ⟨25, _⟩ => ⟨S2816x1024, .f32⟩
  | .hbm, ⟨26, _⟩ => ⟨S16384x2816, .f32⟩
  | .hbm, ⟨27, _⟩ => ⟨S16384x2816, .f32⟩
  | .hbm, ⟨28, _⟩ => ⟨S16384x2816, .f32⟩
  | .hbm, ⟨29, _⟩ => ⟨S_, .f32⟩
  | .hbm, ⟨30, _⟩ => ⟨S16384x2816, .f32⟩
  | .hbm, ⟨31, _⟩ => ⟨S16384x2816, .f32⟩
  | .hbm, ⟨32, _⟩ => ⟨S_, .f32⟩
  | .hbm, ⟨33, _⟩ => ⟨S16384x2816, .f32⟩
  | .hbm, ⟨34, _⟩ => ⟨S16384x2816, .f32⟩
  | .hbm, ⟨35, _⟩ => ⟨S16384x2816, .f32⟩
  | .hbm, ⟨36, _⟩ => ⟨S16384x2816, .f32⟩
  | .hbm, ⟨37, _⟩ => ⟨S16384x2816, .f32⟩
  | .hbm, ⟨38, _⟩ => ⟨S16384x1024, .f32⟩
  | .hbm, ⟨39, _⟩ => ⟨S1024, .f32⟩
  | .hbm, ⟨40, _⟩ => ⟨S16384x1024, .f32⟩
  | .hbm, ⟨41, _⟩ => ⟨S_, .f32⟩
  | .hbm, ⟨42, _⟩ => ⟨S16384, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S16384x1, .f32⟩
  | .hbm, ⟨51, _⟩ => ⟨S16384x1024, .f32⟩
  | .hbm, ⟨52, _⟩ => ⟨S16384x1024, .f32⟩
  | .hbm, ⟨53, _⟩ => ⟨S1x1024, .f32⟩
  | .hbm, ⟨54, _⟩ => ⟨S16384x1024, .f32⟩
  | .hbm, ⟨55, _⟩ => ⟨S16384x1024, .f32⟩
  | .hbm, ⟨56, _⟩ => ⟨S_, .f32⟩
  | .hbm, ⟨57, _⟩ => ⟨S16384x1024, .f32⟩
  | .hbm, ⟨58, _⟩ => ⟨S16384x1024, .f32⟩
  | .hbm, ⟨59, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_5 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩

abbrev nD : Nat := 1
abbrev τ : Topo := Topo.v7x

variable {F : FTy → Type} [FloatOps F]
-- ==== Proj.lean ====
abbrev S4x4096x1024 : Shape := ⟨3, ![4, 4096, 1024]⟩
abbrev S1x1024 : Shape := ⟨2, ![1, 1024]⟩
abbrev S1x1024x3360 : Shape := ⟨3, ![1, 1024, 3360]⟩
abbrev S1x1824 : Shape := ⟨2, ![1, 1824]⟩
abbrev S1x64x512 : Shape := ⟨3, ![1, 64, 512]⟩
abbrev S1x160x512 : Shape := ⟨3, ![1, 160, 512]⟩
abbrev S1x512 : Shape := ⟨2, ![1, 512]⟩
abbrev S1x8x64 : Shape := ⟨3, ![1, 8, 64]⟩
abbrev S1024 : Shape := ⟨1, ![1024]⟩
abbrev S1024x3360 : Shape := ⟨2, ![1024, 3360]⟩
abbrev S1824 : Shape := ⟨1, ![1824]⟩
abbrev S64x512 : Shape := ⟨2, ![64, 512]⟩
abbrev S160x512 : Shape := ⟨2, ![160, 512]⟩
abbrev S512 : Shape := ⟨1, ![512]⟩
abbrev S8x64 : Shape := ⟨2, ![8, 64]⟩
abbrev S1024x288 : Shape := ⟨2, ![1024, 288]⟩
abbrev S_ : Shape := ⟨0, ![]⟩
abbrev S1024x384 : Shape := ⟨2, ![1024, 384]⟩
abbrev S1024x1536 : Shape := ⟨2, ![1024, 1536]⟩
abbrev S1920 : Shape := ⟨1, ![1920]⟩
abbrev S1x1920 : Shape := ⟨2, ![1, 1920]⟩
abbrev S384x1536 : Shape := ⟨2, ![384, 1536]⟩
abbrev S1 : Shape := ⟨1, ![1]⟩
abbrev S2 : Shape := ⟨1, ![2]⟩
abbrev S512x1 : Shape := ⟨2, ![512, 1]⟩
abbrev S512x512 : Shape := ⟨2, ![512, 512]⟩
abbrev S4x4096x512 : Shape := ⟨3, ![4, 4096, 512]⟩
abbrev S4x64x512 : Shape := ⟨3, ![4, 64, 512]⟩
abbrev S4x512x4096 : Shape := ⟨3, ![4, 512, 4096]⟩
abbrev S1x512x1024 : Shape := ⟨3, ![1, 512, 1024]⟩
abbrev S1x512x512 : Shape := ⟨3, ![1, 512, 512]⟩
abbrev S1x8x512 : Shape := ⟨3, ![1, 8, 512]⟩
abbrev S8x1 : Shape := ⟨2, ![8, 1]⟩
abbrev S1x384 : Shape := ⟨2, ![1, 384]⟩
abbrev S512x1024 : Shape := ⟨2, ![512, 1024]⟩
abbrev S512x384 : Shape := ⟨2, ![512, 384]⟩
abbrev S8x384 : Shape := ⟨2, ![8, 384]⟩
abbrev S504x384 : Shape := ⟨2, ![504, 384]⟩
abbrev S1024x512 : Shape := ⟨2, ![1024, 512]⟩
abbrev S8x512 : Shape := ⟨2, ![8, 512]⟩
abbrev S504x512 : Shape := ⟨2, ![504, 512]⟩
abbrev S512x128 : Shape := ⟨2, ![512, 128]⟩
abbrev S128x1024 : Shape := ⟨2, ![128, 1024]⟩
abbrev S512x256 : Shape := ⟨2, ![512, 256]⟩
abbrev S256x512 : Shape := ⟨2, ![256, 512]⟩
abbrev S512x1536 : Shape := ⟨2, ![512, 1536]⟩
abbrev S64x64 : Shape := ⟨2, ![64, 64]⟩
abbrev S64x192 : Shape := ⟨2, ![64, 192]⟩
abbrev S192x512 : Shape := ⟨2, ![192, 512]⟩

abbrev nBuf : Space → Nat
  | .hbm => 99
  | .vmem => 41
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x3360, .f32⟩
  | .hbm, ⟨3, _⟩ => ⟨S1x1824, .f32⟩
  | .hbm, ⟨4, _⟩ => ⟨S1x64x512, .f32⟩
  | .hbm, ⟨5, _⟩ => ⟨S1x64x512, .f32⟩
  | .hbm, ⟨6, _⟩ => ⟨S1x160x512, .f32⟩
  | .hbm, ⟨7, _⟩ => ⟨S1x512, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S1x8x64, .f32⟩
  | .hbm, ⟨12, _⟩ => ⟨S1024, .f32⟩
  | .hbm, ⟨13, _⟩ => ⟨S1024x3360, .f32⟩
  | .hbm, ⟨14, _⟩ => ⟨S1824, .f32⟩
  | .hbm, ⟨15, _⟩ => ⟨S64x512, .f32⟩
  | .hbm, ⟨16, _⟩ => ⟨S64x512, .f32⟩
  | .hbm, ⟨17, _⟩ => ⟨S160x512, .f32⟩
  | .hbm, ⟨18, _⟩ => ⟨S512, .f32⟩
  | .hbm, ⟨19, _⟩ => ⟨S512, .f32⟩
  | .hbm, ⟨20, _⟩ => ⟨S512, .f32⟩
  | .hbm, ⟨21, _⟩ => ⟨S512, .f32⟩
  | .hbm, ⟨22, _⟩ => ⟨S8x64, .f32⟩
  | .hbm, ⟨23, _⟩ => ⟨S512, .f32⟩
  | .hbm, ⟨24, _⟩ => ⟨S1024x3360, .bf16⟩
  | .hbm, ⟨25, _⟩ => ⟨S1024x288, .bf16⟩
  | .hbm, ⟨26, _⟩ => ⟨S_, .i32⟩
  | .hbm, ⟨27, _⟩ => ⟨S_, .bf16⟩
  | .hbm, ⟨28, _⟩ => ⟨S1024x384, .bf16⟩
  | .hbm, ⟨29, _⟩ => ⟨S1024x1536, .bf16⟩
  | .hbm, ⟨30, _⟩ => ⟨S_, .i32⟩
  | .hbm, ⟨31, _⟩ => ⟨S_, .f32⟩
  | .hbm, ⟨32, _⟩ => ⟨S1920, .f32⟩
  | .hbm, ⟨33, _⟩ => ⟨S1x1920, .f32⟩
  | .hbm, ⟨34, _⟩ => ⟨S_, .f32⟩
  | .hbm, ⟨35, _⟩ => ⟨S384x1536, .f32⟩
  | .hbm, ⟨36, _⟩ => ⟨S_, .i32⟩
  | .hbm, ⟨37, _⟩ => ⟨S1, .i32⟩
  | .hbm, ⟨38, _⟩ => ⟨S_, .i32⟩
  | .hbm, ⟨39, _⟩ => ⟨S1, .i32⟩
  | .hbm, ⟨40, _⟩ => ⟨S2, .i32⟩
  | .hbm, ⟨41, _⟩ => ⟨S384x1536, .f32⟩
  | .hbm, ⟨42, _⟩ => ⟨S_, .i32⟩
  | .hbm, ⟨43, _⟩ => ⟨S1, .i32⟩
  | .hbm, ⟨44, _⟩ => ⟨S_, .i32⟩
  | .hbm, ⟨45, _⟩ => ⟨S1, .i32⟩
  | .hbm, ⟨46, _⟩ => ⟨S2, .i32⟩
  | .hbm, ⟨47, _⟩ => ⟨S384x1536, .f32⟩
  | .hbm, ⟨48, _⟩ => ⟨S_, .i32⟩
  | .hbm, ⟨49, _⟩ => ⟨S1, .i32⟩
  | .hbm, ⟨50, _⟩ => ⟨S_, .i32⟩
  | .hbm, ⟨51, _⟩ => ⟨S1, .i32⟩
  | .hbm, ⟨52, _⟩ => ⟨S2, .i32⟩
  | .hbm, ⟨53, _⟩ => ⟨S384x1536, .f32⟩
  | .hbm, ⟨54, _⟩ => ⟨S384x1536, .bf16⟩
  | .hbm, ⟨55, _⟩ => ⟨S1x1024, .f32⟩
  | .hbm, ⟨56, _⟩ => ⟨S512, .i32⟩
  | .hbm, ⟨57, _⟩ => ⟨S_, .i32⟩
  | .hbm, ⟨58, _⟩ => ⟨S_, .i32⟩
  | .hbm, ⟨59, _⟩ => ⟨S512, .i32⟩
  | .hbm, ⟨60, _⟩ => ⟨S512, .i32⟩
  | .hbm, ⟨61, _⟩ => ⟨S512, .i32⟩
  | .hbm, ⟨62, _⟩ => ⟨S_, .i32⟩
  | .hbm, ⟨63, _⟩ => ⟨S512, .i32⟩
  | .hbm, ⟨64, _⟩ => ⟨S512, .i1⟩
  | .hbm, ⟨65, _⟩ => ⟨S512, .i32⟩
  | .hbm, ⟨66, _⟩ => ⟨S512, .i32⟩
  | .hbm, ⟨67, _⟩ => ⟨S_, .i32⟩
  | .hbm, ⟨68, _⟩ => ⟨S512, .i32⟩
  | .hbm, ⟨69, _⟩ => ⟨S512, .i1⟩
  | .hbm, ⟨70, _⟩ => ⟨S512, .i1⟩
  | .hbm, ⟨71, _⟩ => ⟨S_, .i32⟩
  | .hbm, ⟨72, _⟩ => ⟨S512, .i32⟩
  | .hbm, ⟨73, _⟩ => ⟨S512, .i32⟩
  | .hbm, ⟨74, _⟩ => ⟨S512, .i32⟩
  | .hbm, ⟨75, _⟩ => ⟨S512x1, .i32⟩
  | .hbm, ⟨76, _⟩ => ⟨S1x512, .i32⟩
  | .hbm, ⟨77, _⟩ => ⟨S512x512, .i32⟩
  | .hbm, ⟨78, _⟩ => ⟨S512x512, .i32⟩
  | .hbm, ⟨79, _⟩ => ⟨S512x512, .i1⟩
  | .hbm, ⟨80, _⟩ => ⟨S512x512, .bf16⟩
  | .hbm, ⟨81, _⟩ => ⟨S1x512, .f32⟩
  | .hbm, ⟨82, _⟩ => ⟨S1x512, .f32⟩
  | .hbm, ⟨83, _⟩ => ⟨S1x512, .f32⟩
  | .hbm, ⟨84, _⟩ => ⟨S1x512, .f32⟩
  | .hbm, ⟨85, _⟩ => ⟨S1x512, .f32⟩
  | .hbm, ⟨86, _⟩ => ⟨S4x4096x512, .bf16⟩
  | .hbm, ⟨87, _⟩ => ⟨S4x4096x512, .bf16⟩
  | .hbm, ⟨88, _⟩ => ⟨S4x4096x512, .bf16⟩
  | .hbm, ⟨89, _⟩ => ⟨S4x4096x512, .bf16⟩
  | .hbm, ⟨90, _⟩ => ⟨S4x4096x512, .bf16⟩
  | .hbm, ⟨91, _⟩ => ⟨S4x4096x512, .bf16⟩
  | .hbm, ⟨92, _⟩ => ⟨S4x4096x512, .bf16⟩
  | .hbm, ⟨93, _⟩ => ⟨S4x64x512, .f32⟩
  | .hbm, ⟨94, _⟩ => ⟨S4x4096x512, .f32⟩
  | .hbm, ⟨95, _⟩ => ⟨S4x4096x512, .f32⟩
  | .hbm, ⟨96, _⟩ => ⟨S4x4096x512, .bf16⟩
  | .hbm, ⟨97, _⟩ => ⟨S4x4096x512, .bf16⟩
  | .hbm, ⟨98, _⟩ => ⟨S4x512x4096, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x1536, .bf16⟩
  | .local _ .vmem, ⟨4, _⟩ => ⟨S1024x384, .bf16⟩
  | .local _ .vmem, ⟨5, _⟩ => ⟨S1024x1536, .bf16⟩
  | .local _ .vmem, ⟨6, _⟩ => ⟨S1x1920, .f32⟩
  | .local _ .vmem, ⟨7, _⟩ => ⟨S384x1536, .bf16⟩
  | .local _ .vmem, ⟨8, _⟩ => ⟨S512x512, .bf16⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x512x512, .bf16⟩
  | .local _ .vmem, ⟨15, _⟩ => ⟨S1x512x512, .bf16⟩
  | .local _ .vmem, ⟨16, _⟩ => ⟨S1x512x512, .bf16⟩
  | .local _ .vmem, ⟨17, _⟩ => ⟨S1x512x512, .bf16⟩
  | .local _ .vmem, ⟨18, _⟩ => ⟨S1x512x512, .bf16⟩
  | .local _ .vmem, ⟨19, _⟩ => ⟨S1x512x512, .bf16⟩
  | .local _ .vmem, ⟨20, _⟩ => ⟨S1x512x512, .bf16⟩
  | .local _ .vmem, ⟨21, _⟩ => ⟨S1x512x512, .bf16⟩
  | .local _ .vmem, ⟨22, _⟩ => ⟨S1x512x512, .bf16⟩
  | .local _ .vmem, ⟨23, _⟩ => ⟨S1x512x512, .bf16⟩
  | .local _ .vmem, ⟨24, _⟩ => ⟨S1x512x512, .bf16⟩
  | .local _ .vmem, ⟨25, _⟩ => ⟨S1x512x512, .bf16⟩
  | .local _ .vmem, ⟨26, _⟩ => ⟨S1x512x512, .bf16⟩
  | .local _ .vmem, ⟨27, _⟩ => ⟨S1x512x512, .bf16⟩
  | .local _ .vmem, ⟨28, _⟩ => ⟨S1x8x512, .f32⟩
  | .local _ .vmem, ⟨29, _⟩ => ⟨S1x8x512, .f32⟩
  | .local _ .vmem, ⟨30, _⟩ => ⟨S1x512x512, .f32⟩
  | .local _ .vmem, ⟨31, _⟩ => ⟨S1x512x512, .f32⟩
  | .local _ .vmem, ⟨32, _⟩ => ⟨S1x512x512, .f32⟩
  | .local _ .vmem, ⟨33, _⟩ => ⟨S1x512x512, .f32⟩
  | .local _ .vmem, ⟨34, _⟩ => ⟨S1x512x512, .bf16⟩
  | .local _ .vmem, ⟨35, _⟩ => ⟨S1x512x512, .bf16⟩
  | .local _ .vmem, ⟨36, _⟩ => ⟨S1x512x512, .bf16⟩
  | .local _ .vmem, ⟨37, _⟩ => ⟨S1x512x512, .bf16⟩
  | .local _ .vmem, ⟨38, _⟩ => ⟨S1x512x512, .bf16⟩
  | .local _ .vmem, ⟨39, _⟩ => ⟨S1x512x512, .bf16⟩
  | .local _ .vmem, ⟨40, _⟩ => ⟨S1x1920, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_call0_v0 : Ref sig .tc := ⟨.hbm, 27, rfl⟩
abbrev main_v14 : Ref sig .tc := ⟨.hbm, 28, rfl⟩
abbrev main_v15 : Ref sig .tc := ⟨.hbm, 29, rfl⟩
abbrev main_c_0 : Ref sig .tc := ⟨.hbm, 30, rfl⟩
abbrev main_call1_v0 : Ref sig .tc := ⟨.hbm, 31, rfl⟩
abbrev main_v16 : Ref sig .tc := ⟨.hbm, 32, rfl⟩
abbrev main_v17 : Ref sig .tc := ⟨.hbm, 33, rfl⟩
abbrev main_cst : Ref sig .tc := ⟨.hbm, 34, rfl⟩
abbrev main_v18 : Ref sig .tc := ⟨.hbm, 35, rfl⟩
abbrev main_c_1 : Ref sig .tc := ⟨.hbm, 36, rfl⟩
abbrev main_v19 : Ref sig .tc := ⟨.hbm, 37, rfl⟩
abbrev main_c_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_3 : Ref sig .tc := ⟨.hbm, 42, rfl⟩
abbrev main_v23 : Ref sig .tc := ⟨.hbm, 43, rfl⟩
abbrev main_c_4 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_5 : Ref sig .tc := ⟨.hbm, 48, rfl⟩
abbrev main_v27 : Ref sig .tc := ⟨.hbm, 49, rfl⟩
abbrev main_c_6 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_7 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_v5 : Ref sig .tc := ⟨.hbm, 63, rfl⟩
abbrev main_call2_v6 : Ref sig .tc := ⟨.hbm, 64, rfl⟩
abbrev main_call2_v7 : Ref sig .tc := ⟨.hbm, 65, rfl⟩
abbrev main_call2_v8 : Ref sig .tc := ⟨.hbm, 66, rfl⟩
abbrev main_call2_c : Ref sig .tc := ⟨.hbm, 67, rfl⟩
abbrev main_call2_v9 : Ref sig .tc := ⟨.hbm, 68, rfl⟩
abbrev main_call2_v10 : Ref sig .tc := ⟨.hbm, 69, rfl⟩
abbrev main_call2_v11 : Ref sig .tc := ⟨.hbm, 70, rfl⟩
abbrev main_call2_c_0 : Ref sig .tc := ⟨.hbm, 71, rfl⟩
abbrev main_call2_v12 : Ref sig .tc := ⟨.hbm, 72, rfl⟩
abbrev main_call2_v13 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46_0 : Ref sig .tc := ⟨.hbm, 86, rfl⟩
abbrev main_v46_1 : Ref sig .tc := ⟨.hbm, 87, rfl⟩
abbrev main_v46_2 : Ref sig .tc := ⟨.hbm, 88, rfl⟩
abbrev main_v46_3 : Ref sig .tc := ⟨.hbm, 89, rfl⟩
abbrev main_v46_4 : Ref sig .tc := ⟨.hbm, 90, rfl⟩
abbrev main_v46_5 : Ref sig .tc := ⟨.hbm, 91, rfl⟩
abbrev main_v46_6 : Ref sig .tc := ⟨.hbm, 92, rfl⟩
abbrev main_v46_7 : Ref sig .tc := ⟨.hbm, 93, rfl⟩
abbrev main_v46_8 : Ref sig .tc := ⟨.hbm, 94, rfl⟩
abbrev main_v46_9 : Ref sig .tc := ⟨.hbm, 95, rfl⟩
abbrev main_v46_10 : Ref sig .tc := ⟨.hbm, 96, rfl⟩
abbrev main_v46_11 : Ref sig .tc := ⟨.hbm, 97, rfl⟩
abbrev main_v46_12 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_stg20_0 : Ref sig .tc := ⟨.vmem, 28, rfl⟩
abbrev cc0_stg20_1 : Ref sig .tc := ⟨.vmem, 29, rfl⟩
abbrev cc0_stg21_0 : Ref sig .tc := ⟨.vmem, 30, rfl⟩
abbrev cc0_stg21_1 : Ref sig .tc := ⟨.vmem, 31, rfl⟩
abbrev cc0_stg22_0 : Ref sig .tc := ⟨.vmem, 32, rfl⟩
abbrev cc0_stg22_1 : Ref sig .tc := ⟨.vmem, 33, rfl⟩
abbrev cc0_stg23_0 : Ref sig .tc := ⟨.vmem, 34, rfl⟩
abbrev cc0_stg23_1 : Ref sig .tc := ⟨.vmem, 35, rfl⟩
abbrev cc0_stg24_0 : Ref sig .tc := ⟨.vmem, 36, rfl⟩
abbrev cc0_stg24_1 : Ref sig .tc := ⟨.vmem, 37, rfl⟩
abbrev cc0_stg25_0 : Ref sig .tc := ⟨.vmem, 38, rfl⟩
abbrev cc0_stg25_1 : Ref sig .tc := ⟨.vmem, 39, rfl⟩
abbrev cc0_scratch0 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem14_1 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27
abbrev cc0_sem20_0 : DmaSem sig := 28
abbrev cc0_sem20_1 : DmaSem sig := 29
abbrev cc0_sem21_0 : DmaSem sig := 30
abbrev cc0_sem21_1 : DmaSem sig := 31
abbrev cc0_sem22_0 : DmaSem sig := 32
abbrev cc0_sem22_1 : DmaSem sig := 33
abbrev cc0_sem23_0 : DmaSem sig := 34
abbrev cc0_sem23_1 : DmaSem sig := 35
abbrev cc0_sem24_0 : DmaSem sig := 36
abbrev cc0_sem24_1 : DmaSem sig := 37
abbrev cc0_sem25_0 : DmaSem sig := 38
abbrev cc0_sem25_1 : DmaSem sig := 39

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_25 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1920 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S384x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x8x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x512x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x512x512 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x512x512 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x512x512 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S1x512x512 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]
-- ==== Rwkv.lean ====
abbrev S4x4096x512 : Shape := ⟨3, ![4, 4096, 512]⟩
abbrev S4x64x512 : Shape := ⟨3, ![4, 64, 512]⟩
abbrev S1x512 : Shape := ⟨2, ![1, 512]⟩
abbrev S512 : Shape := ⟨1, ![512]⟩
abbrev S1x512x512 : Shape := ⟨3, ![1, 512, 512]⟩
abbrev S1x8x512 : Shape := ⟨3, ![1, 8, 512]⟩
abbrev S4x128x128 : Shape := ⟨3, ![4, 128, 128]⟩
abbrev S1x64x512 : Shape := ⟨3, ![1, 64, 512]⟩
abbrev S64x512 : Shape := ⟨2, ![64, 512]⟩
abbrev S1x1x512 : Shape := ⟨3, ![1, 1, 512]⟩
abbrev S1x128 : Shape := ⟨2, ![1, 128]⟩
abbrev S128x128 : Shape := ⟨2, ![128, 128]⟩
abbrev S256x128 : Shape := ⟨2, ![256, 128]⟩
abbrev S64x128 : Shape := ⟨2, ![64, 128]⟩
abbrev S256x256 : Shape := ⟨2, ![256, 256]⟩
abbrev S128x256 : Shape := ⟨2, ![128, 256]⟩
abbrev S128 : Shape := ⟨1, ![128]⟩
abbrev S128x1 : Shape := ⟨2, ![128, 1]⟩
abbrev S1x128x128 : Shape := ⟨3, ![1, 128, 128]⟩
abbrev S512x128 : Shape := ⟨2, ![512, 128]⟩
abbrev S512x256 : Shape := ⟨2, ![512, 256]⟩
abbrev S1x512x128 : Shape := ⟨3, ![1, 512, 128]⟩

abbrev nBuf : Space → Nat
  | .hbm => 17
  | .vmem => 25
  | .smem => 0
  | _ => 0

abbrev bufTy : (tb : Table) → Fin (tcTables nBuf tb) → BufTy
  | .hbm, ⟨0, _⟩ => ⟨S4x4096x512, .bf16⟩
  | .hbm, ⟨1, _⟩ => ⟨S4x4096x512, .bf16⟩
  | .hbm, ⟨2, _⟩ => ⟨S4x4096x512, .bf16⟩
  | .hbm, ⟨3, _⟩ => ⟨S4x4096x512, .bf16⟩
  | .hbm, ⟨4, _⟩ => ⟨S4x4096x512, .bf16⟩
  | .hbm, ⟨5, _⟩ => ⟨S4x4096x512, .bf16⟩
  | .hbm, ⟨6, _⟩ => ⟨S4x4096x512, .bf16⟩
  | .hbm, ⟨7, _⟩ => ⟨S4x64x512, .f32⟩
  | .hbm, ⟨8, _⟩ => ⟨S4x4096x512, .f32⟩
  | .hbm, ⟨9, _⟩ => ⟨S4x4096x512, .f32⟩
  | .hbm, ⟨10, _⟩ => ⟨S1x512, .f32⟩
  | .hbm, ⟨11, _⟩ => ⟨S1x512, .f32⟩
  | .hbm, ⟨12, _⟩ => ⟨S512, .f32⟩
  | .hbm, ⟨13, _⟩ => ⟨S512, .f32⟩
  | .hbm, ⟨14, _⟩ => ⟨S1x512, .f32⟩
  | .hbm, ⟨15, _⟩ => ⟨S1x512, .f32⟩
  | .hbm, ⟨16, _⟩ => ⟨S4x4096x512, .bf16⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x512x512, .bf16⟩
  | .local _ .vmem, ⟨11, _⟩ => ⟨S1x512x512, .bf16⟩
  | .local _ .vmem, ⟨12, _⟩ => ⟨S1x512x512, .bf16⟩
  | .local _ .vmem, ⟨13, _⟩ => ⟨S1x512x512, .bf16⟩
  | .local _ .vmem, ⟨14, _⟩ => ⟨S1x8x512, .f32⟩
  | .local _ .vmem, ⟨15, _⟩ => ⟨S1x8x512, .f32⟩
  | .local _ .vmem, ⟨16, _⟩ => ⟨S1x512x512, .f32⟩
  | .local _ .vmem, ⟨17, _⟩ => ⟨S1x512x512, .f32⟩
  | .local _ .vmem, ⟨18, _⟩ => ⟨S1x512x512, .f32⟩
  | .local _ .vmem, ⟨19, _⟩ => ⟨S1x512x512, .f32⟩
  | .local _ .vmem, ⟨20, _⟩ => ⟨S1x512, .f32⟩
  | .local _ .vmem, ⟨21, _⟩ => ⟨S1x512, .f32⟩
  | .local _ .vmem, ⟨22, _⟩ => ⟨S1x512x512, .bf16⟩
  | .local _ .vmem, ⟨23, _⟩ => ⟨S1x512x512, .bf16⟩
  | .local _ .vmem, ⟨24, _⟩ => ⟨S4x128x128, .f32⟩
  | _, _ => ⟨S4x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Proof.Half.Rows.lean ====
/- The feed-forward half-step of one row, over the extended reals: the formula both the kernels and their references compute, row by row. -/
module

public import Idealize.ShloMosaic.PureOps.Ideal
public import Idealize.ShloMosaic.Lib.Pointwise

@[expose] public section

noncomputable section

namespace Cert.Half

open Idealize.ShloMosaic

/-- The row scaled to unit root mean square, times a gain. -/
def rms (x g : Fin 1024 → EReal) (l : Fin 1024) : EReal :=
  x l * Ideal.rsqrt (Ideal.div (∑ k, x k * x k) (Ideal.ofBits .f32 0x44800000#32) + Ideal.ofBits .f32 0x358637BD#32) * g l

/-- One hidden unit: the gate's product through its sigmoid, times the other product. -/
def gated (a u : EReal) : EReal := a * Ideal.logistic a * u

/-- The hidden layer of a row already normalised. -/
def hidden (h : Fin 1024 → EReal) (wg wu : Fin 1024 → Fin 2816 → EReal) (c : Fin 2816) : EReal :=
  gated (∑ k, h k * wg k c) (∑ k, h k * wu k c)

/-- The row plus half its normalised feed-forward image, from the hidden layer. -/
def close (x post : Fin 1024 → EReal) (a : Fin 2816 → EReal) (wd : Fin 2816 → Fin 1024 → EReal) (l : Fin 1024) : EReal :=
  x l + Ideal.ofBits .f32 0x3F000000#32 * rms (fun n => ∑ c, a c * wd c n) post l

/-- The half-step of one row. -/
def step (x pre post : Fin 1024 → EReal) (wg wu : Fin 1024 → Fin 2816 → EReal) (wd : Fin 2816 → Fin 1024 → EReal) (l : Fin 1024) : EReal :=
  close x post (hidden (rms x pre) wg wu) wd l

/-- The row plus its normalised mixture of the two mixers' rows, each through its half of the output projection. -/
def mixed (x : Fin 1024 → EReal) (yr yd : Fin 512 → EReal) (top bot : Fin 512 → Fin 1024 → EReal) (g : Fin 1024 → EReal) (l : Fin 1024) : EReal :=
  x l + rms (fun n => ∑ k, yr k * top k n + ∑ k, yd k * bot k n) g l

/-- `close` depends on its arguments only at their entries. -/
theorem close_congr {x x' post post' : Fin 1024 → EReal} {a a' : Fin 2816 → EReal} {wd wd' : Fin 2816 → Fin 1024 → EReal} {l l' : Fin 1024}
    (hl : l = l') (hx : ∀ k, x k = x' k) (hp : ∀ k, post k = post' k) (ha : ∀ c, a c = a' c) (hw : ∀ c k, wd c k = wd' c k) :
    close x post a wd l = close x' post' a' wd' l' := by
  obtain rfl := hl
  obtain rfl : x = x' := funext hx
  obtain rfl : post = post' := funext hp
  obtain rfl : a = a' := funext ha
  obtain rfl : wd = wd' := funext fun c => funext (hw c)
  rfl

/-- A hidden unit from one tile's products. -/
theorem hidden_tile {h h' g u : Fin 1024 → EReal} {wg' wu' : Fin 1024 → Fin 2816 → EReal} {c : Fin 2816}
    (hh : ∀ k, h k = h' k) (hg : ∀ k, g k = wg' k c) (hu : ∀ k, u k = wu' k c) :
    gated (∑ k, h k * g k) (∑ k, h k * u k) = hidden h' wg' wu' c := by
  obtain rfl : h = h' := funext hh
  unfold hidden
  simp only [hg, hu]

/-- `step` depends on its arguments only at their entries. -/
theorem step_congr {x x' pre pre' post post' : Fin 1024 → EReal} {wg wg' wu wu' : Fin 1024 → Fin 2816 → EReal} {wd wd' : Fin 2816 → Fin 1024 → EReal}
    {l l' : Fin 1024} (hl : l = l') (hx : ∀ k, x k = x' k) (hpre : ∀ k, pre k = pre' k) (hpost : ∀ k, post k = post' k)
    (hg : ∀ k n, wg k n = wg' k n) (hu : ∀ k n, wu k n = wu' k n) (hd : ∀ k n, wd k n = wd' k n) :
    step x pre post wg wu wd l = step x' pre' post' wg' wu' wd' l' := by
  obtain rfl := hl
  obtain rfl : x = x' := funext hx
  obtain rfl : pre = pre' := funext hpre
  obtain rfl : post = post' := funext hpost
  obtain rfl : wg = wg' := funext fun k => funext (hg k)
  obtain rfl : wu = wu' := funext fun k => funext (hu k)
  obtain rfl : wd = wd' := funext fun k => funext (hd k)
  rfl

/-- `rms` depends on its arguments only at their entries. -/
theorem rms_congr {x x' g g' : Fin 1024 → EReal} (hx : ∀ k, x k = x' k) (hg : ∀ k, g k = g' k) (l : Fin 1024) : rms x g l = rms x' g' l := by
  obtain rfl : x = x' := funext hx
  obtain rfl : g = g' := funext hg
  rfl

/-- `mixed` depends on its arguments only at their entries. -/
theorem mixed_congr {x x' g g' : Fin 1024 → EReal} {yr yr' yd yd' : Fin 512 → EReal} {top top' bot bot' : Fin 512 → Fin 1024 → EReal}
    (hx : ∀ k, x k = x' k) (hr : ∀ k, yr k = yr' k) (hd : ∀ k, yd k = yd' k) (ht : ∀ k n, top k n = top' k n) (hb : ∀ k n, bot k n = bot' k n)
    (hg : ∀ k, g k = g' k) (l : Fin 1024) : mixed x yr yd top bot g l = mixed x' yr' yd' top' bot' g' l := by
  obtain rfl : x = x' := funext hx
  obtain rfl : g = g' := funext hg
  obtain rfl : yr = yr' := funext hr
  obtain rfl : yd = yd' := funext hd
  obtain rfl : top = top' := funext fun k => funext (ht k)
  obtain rfl : bot = bot' := funext fun k => funext (hb k)
  rfl

end Cert.Half

end
-- ==== Proof.Half.Tiles.lean ====
/- Blocks cut into tiles: what a load of part of a block reads, and which rows the stores of tiles cover. -/
module

public import Idealize.ShloMosaic.PureOps.Ideal
public import Idealize.ShloMosaic.Lib.Pipeline.ValueKit

@[expose] public section

set_option maxRecDepth 16384

noncomputable section

namespace Cert.Half

open Idealize.ShloMosaic Idealize.ShloMosaic.TcCoe Idealize.SL.Sem

variable {sig : RefSig}

/-- The hidden layer of a block of rows. -/
abbrev Hid : Shape := ⟨2, ![1024, 2816]⟩

/-- A load of part of a block, at an entry. -/
theorem ld_at {A B n k : ℕ} {φ : EltTy} (X : Vec Ideal ⟨2, ![A, B]⟩ φ) (o c : ℕ)
    (hx : ∀ a, (![o, c] : Fin 2 → ℕ) a + (![n, k] : Fin 2 → ℕ) a ≤ (⟨2, ![A, B]⟩ : Shape).size a)
    (z0 : Fin n) (z1 : Fin k) (q0 : Fin A) (q1 : Fin B) (h0 : (q0 : ℕ) = o + z0) (h1 : (q1 : ℕ) = c + z1) :
    View.ld X (Rect.unit (s := ⟨2, ![A, B]⟩) ![o, c] ![n, k] hx) (ix2 z0 z1) = X (ix2 q0 q1) := by
  refine congrArg X (funext fun a => ?_)
  revert a
  exact Fin.forall_fin_two.2 ⟨Fin.ext (by simp [h0]), Fin.ext (by simp [h1])⟩

/-- A load of half the hidden layer's rows, at an entry: what the stores left there. -/
theorem readBack {v : View sig .tc .vmem Hid .bf16} {L : List (View.Piece (Elt Ideal) Hid .bf16)} {o : ℕ}
    {inb : ∀ a, (![o, 0] : Fin 2 → ℕ) a + (![512, 2816] : Fin 2 → ℕ) a ≤ Hid.size a} {r : Fin 512} {c : Fin 2816} {w : EReal}
    (h : ∀ q : Hid.Idx, (q 0 : ℕ) = o + r → (q 1 : ℕ) = c → View.canon L q = w) :
    v.readCov L (Rect.unit (s := Hid) ![o, 0] ![512, 2816] inb).toLoadRect (ix2 r c) = w := by
  rw [View.readCov_eq_canon']
  exact h _ (by simp) (by simp)

/-- The tile of 256 columns from `c` on, of the rows from `o` on. -/
abbrev tile (o c : ℕ) (ho : o + 512 ≤ 1024) (hc : c + 256 ≤ 2816) : Rect Hid :=
  Rect.unit (s := Hid) ![o, c] ![512, 256] (Fin.forall_fin_two.2 ⟨ho, hc⟩)

/-- The eleven tiles that the rows from `o` on are stored in, last one first. -/
def tiles (o : ℕ) (ho : o + 512 ≤ 1024) : List (Rect Hid) :=
  [tile o 2560 ho (by decide), tile o 2304 ho (by decide), tile o 2048 ho (by decide), tile o 1792 ho (by decide), tile o 1536 ho (by decide),
   tile o 1280 ho (by decide), tile o 1024 ho (by decide), tile o 768 ho (by decide), tile o 512 ho (by decide), tile o 256 ho (by decide),
   tile o 0 ho (by decide)]

/-- Stores through those tiles, after any others, cover the rows. -/
theorem cover {L : List (View.Piece (Elt Ideal) Hid .bf16)} (o : ℕ) (ho : o + 512 ≤ 1024) (rest : List (Rect Hid))
    (hL : L.map (·.1) = tiles o ho ++ rest) {q : Hid.Idx} {r : Fin 512} (hq : (q 0 : ℕ) = o + r) : ∃ p ∈ L, q ∈ p.1.set := by
  have hq1 : (q 1 : ℕ) < 2816 := (q 1).isLt
  have hm : ∃ R ∈ tiles o ho ++ rest, q ∈ R.set := by
    have : ∃ R ∈ tiles o ho, q ∈ R.set := by
      simp only [tiles, List.mem_cons, List.not_mem_nil, or_false, exists_eq_or_imp, exists_eq_left, Rect.mem_set_unit, Fin.forall_fin_two]
      simp
      omega
    obtain ⟨R, hR, h⟩ := this
    exact ⟨R, List.mem_append_left _ hR, h⟩
  rw [← hL] at hm
  obtain ⟨R, hR, h⟩ := hm
  obtain ⟨p, hp, rfl⟩ := List.mem_map.1 hR
  exact ⟨p, hp, h⟩

end Cert.Half

end
-- ==== Proof.Half.MixParts.lean ====
/- What the stores of the kernel with the output projection hold, entry by entry. -/
module

public import proofs.«01_k».proof.Proof.Gen.MixIdeal.Skeleton
public import proofs.«01_k».proof.Proof.Half.Rows
public import proofs.«01_k».proof.Proof.Half.Tiles

@[expose] public section

set_option maxRecDepth 16384

noncomputable section

namespace Cert.MixIdeal.Half

open Idealize.ShloMosaic Idealize.ShloMosaic.TcCoe Idealize.SL.Sem
open Cert.MixIdeal Cert.MixIdeal.Gen Cert.Half

/-- The rows with the mixers' rows joined to them. -/
theorem mixed_at (x : FVec Ideal S512x1024 .f32) (yr : FVec Ideal S512x512 .bf16) (top : FVec Ideal S512x1024 .bf16) (yd : FVec Ideal S512x512 .bf16)
    (bot : FVec Ideal S512x1024 .bf16) (g : FVec Ideal S1x1024 .f32) (r : Fin 512) (l : Fin 1024) :
    k0_pay2 (F := Ideal) x yr top yd bot g (ix2 r l)
      = mixed (fun k => x (ix2 r k)) (fun k => yr (ix2 r k)) (fun k => yd (ix2 r k)) (fun k n => top (ix2 k n)) (fun k n => bot (ix2 k n))
          (fun k => g (ix2 0 k)) l := by
  pointwise! [k0_pay2, mixed, rms]

/-- Those rows normalised. -/
theorem norm_at (x : FVec Ideal S512x1024 .f32) (yr : FVec Ideal S512x512 .bf16) (top : FVec Ideal S512x1024 .bf16) (yd : FVec Ideal S512x512 .bf16)
    (bot : FVec Ideal S512x1024 .bf16) (g pre : FVec Ideal S1x1024 .f32) (r : Fin 512) (l : Fin 1024) :
    k0_pay5 (F := Ideal) (k0_pay3 (F := Ideal) pre) (k0_pay4 (F := Ideal) x yr top yd bot g) (ix2 r l)
      = rms (fun k => k0_pay2 (F := Ideal) x yr top yd bot g (ix2 r k)) (fun k => pre (ix2 0 k)) l := by
  unfold k0_pay4
  generalize k0_pay2 (F := Ideal) x yr top yd bot g = X
  pointwise! [k0_pay5, k0_pay3, rms]

/-- One tile of the hidden layer. -/
theorem tile_at (h : FVec Ideal S512x1024 .bf16) (wg wu : FVec Ideal S1024x256 .bf16) (r : Fin 512) (c : Fin 256) :
    k0_pay10 (F := Ideal) h wg wu (ix2 r c) = gated (∑ k : Fin 1024, h (ix2 r k) * wg (ix2 k c)) (∑ k : Fin 1024, h (ix2 r k) * wu (ix2 k c)) := by
  pointwise! [k0_pay10, gated]

/-- The rows the kernel leaves, from the hidden layer it reads back. -/
theorem close_at (x : FVec Ideal S512x1024 .f32) (a : FVec Ideal S512x2816 .bf16) (wd : FVec Ideal S2816x1024 .bf16) (g : FVec Ideal S1x1024 .f32)
    (r : Fin 512) (l : Fin 1024) :
    k0_pay25 (F := Ideal) x a wd g (ix2 r l)
      = close (fun k => x (ix2 r k)) (fun k => g (ix2 0 k)) (fun c => a (ix2 r c)) (fun c n => wd (ix2 c n)) l := by
  pointwise! [k0_pay25, close, rms]

/-- The kernel's tiles are one computation. -/
theorem same (h : FVec Ideal S512x1024 .bf16) (wg wu : FVec Ideal S1024x256 .bf16) :
    k0_pay11 (F := Ideal) h wg wu = k0_pay10 (F := Ideal) h wg wu
    ∧ k0_pay15 (F := Ideal) h wg wu = k0_pay10 (F := Ideal) h wg wu
    ∧ k0_pay16 (F := Ideal) h wg wu = k0_pay10 (F := Ideal) h wg wu
    ∧ k0_pay19 (F := Ideal) h wg wu = k0_pay10 (F := Ideal) h wg wu
    ∧ k0_pay20 (F := Ideal) h wg wu = k0_pay10 (F := Ideal) h wg wu
    ∧ k0_pay21 (F := Ideal) h wg wu = k0_pay10 (F := Ideal) h wg wu
    ∧ k0_pay22 (F := Ideal) h wg wu = k0_pay10 (F := Ideal) h wg wu
    ∧ k0_pay28 (F := Ideal) h wg wu = k0_pay10 (F := Ideal) h wg wu
    ∧ k0_pay29 (F := Ideal) h wg wu = k0_pay10 (F := Ideal) h wg wu
    ∧ k0_pay33 (F := Ideal) h wg wu = k0_pay10 (F := Ideal) h wg wu
    ∧ k0_pay34 (F := Ideal) h wg wu = k0_pay10 (F := Ideal) h wg wu
    ∧ k0_pay37 (F := Ideal) h wg wu = k0_pay10 (F := Ideal) h wg wu
    ∧ k0_pay38 (F := Ideal) h wg wu = k0_pay10 (F := Ideal) h wg wu
    ∧ k0_pay39 (F := Ideal) h wg wu = k0_pay10 (F := Ideal) h wg wu
    ∧ k0_pay40 (F := Ideal) h wg wu = k0_pay10 (F := Ideal) h wg wu
    ∧ k0_pay24 (F := Ideal) (k0_pay23 (F := Ideal) h wg wu) = k0_pay10 (F := Ideal) h wg wu
    ∧ k0_pay27 (F := Ideal) (k0_pay26 (F := Ideal) h wg wu) = k0_pay10 (F := Ideal) h wg wu
    ∧ k0_pay14 (F := Ideal) h (k0_pay12 (F := Ideal) h wg) (k0_pay13 (F := Ideal) wu) (constant S512x256 .f32 0x00000000#32) = k0_pay10 (F := Ideal) h wg wu
    ∧ k0_pay32 (F := Ideal) h (k0_pay30 (F := Ideal) h wg) (k0_pay31 (F := Ideal) wu) (constant S512x256 .f32 0x00000000#32) = k0_pay10 (F := Ideal) h wg wu
    ∧ k0_pay18 (F := Ideal) h (k0_pay17 (F := Ideal) wg) (constant S512x256 .f32 0x00000000#32) wu = k0_pay10 (F := Ideal) h wg wu
    ∧ k0_pay36 (F := Ideal) h (k0_pay35 (F := Ideal) wg) (constant S512x256 .f32 0x00000000#32) wu = k0_pay10 (F := Ideal) h wg wu := by
  refine ⟨?_, ?_, ?_, ?_, ?_, ?_, ?_, ?_, ?_, ?_, ?_, ?_, ?_, ?_, ?_, ?_, ?_, ?_, ?_, ?_, ?_⟩ <;> rfl

/-- Both halves of the rows are mixed alike. -/
theorem same_mixed (x : FVec Ideal S512x1024 .f32) (yr : FVec Ideal S512x512 .bf16) (top : FVec Ideal S512x1024 .bf16) (yd : FVec Ideal S512x512 .bf16)
    (bot : FVec Ideal S512x1024 .bf16) (g : FVec Ideal S1x1024 .f32) :
    k0_pay6 (F := Ideal) x yr top yd bot g = k0_pay2 (F := Ideal) x yr top yd bot g := rfl

/-- Both halves of the rows are normalised alike. -/
theorem same_norm (x : FVec Ideal S512x1024 .f32) (yr : FVec Ideal S512x512 .bf16) (top : FVec Ideal S512x1024 .bf16) (yd : FVec Ideal S512x512 .bf16)
    (bot : FVec Ideal S512x1024 .bf16) (g pre : FVec Ideal S1x1024 .f32) :
    k0_pay9 (F := Ideal) (k0_pay6 (F := Ideal) x yr top yd bot g) (k0_pay7 (F := Ideal) pre) (k0_pay8 (F := Ideal) x yr top yd bot g)
      = k0_pay5 (F := Ideal) (k0_pay3 (F := Ideal) pre) (k0_pay4 (F := Ideal) x yr top yd bot g) := rfl

/-- Both halves of the rows are closed alike. -/
theorem same_close (x : FVec Ideal S512x1024 .f32) (a : FVec Ideal S512x2816 .bf16) (wd : FVec Ideal S2816x1024 .bf16) (g : FVec Ideal S1x1024 .f32) :
    k0_pay1 (F := Ideal) x (k0_pay41 (F := Ideal) a wd) (k0_pay42 (F := Ideal) g) (k0_pay43 (F := Ideal) a wd) = k0_pay25 (F := Ideal) x a wd g := rfl

/-- The mixed rows, from the blocks they are computed from. -/
theorem mixed_of (X : Vec Ideal S1024x1024 .f32) (yr yd : Vec Ideal S1024x512 .bf16) (wo : Vec Ideal S1024x1024 .bf16) (g : Vec Ideal S1x1024 .f32) (o : ℕ)
    (hx : ∀ a, (![o, 0] : Fin 2 → ℕ) a + (![512, 1024] : Fin 2 → ℕ) a ≤ S1024x1024.size a)
    (hy : ∀ a, (![o, 0] : Fin 2 → ℕ) a + (![512, 512] : Fin 2 → ℕ) a ≤ S1024x512.size a)
    (ht : ∀ a, (![0, 0] : Fin 2 → ℕ) a + (![512, 1024] : Fin 2 → ℕ) a ≤ S1024x1024.size a)
    (hb : ∀ a, (![512, 0] : Fin 2 → ℕ) a + (![512, 1024] : Fin 2 → ℕ) a ≤ S1024x1024.size a)
    (z0 : Fin 512) (q0 l : Fin 1024) (h0 : (q0 : ℕ) = o + z0) :
    k0_pay2 (F := Ideal) (View.ld X (Rect.unit (s := S1024x1024) ![o, 0] ![512, 1024] hx)) (View.ld yr (Rect.unit (s := S1024x512) ![o, 0] ![512, 512] hy))
        (View.ld wo (Rect.unit (s := S1024x1024) ![0, 0] ![512, 1024] ht)) (View.ld yd (Rect.unit (s := S1024x512) ![o, 0] ![512, 512] hy))
        (View.ld wo (Rect.unit (s := S1024x1024) ![512, 0] ![512, 1024] hb)) g (ix2 z0 l)
      = mixed (fun k => X (ix2 q0 k)) (fun k => yr (ix2 q0 k)) (fun k => yd (ix2 q0 k)) (fun k n => wo (ix2 ⟨k.val, by omega⟩ n))
          (fun k n => wo (ix2 ⟨512 + k.val, by omega⟩ n)) (fun k => g (ix2 0 k)) l :=
  (mixed_at _ _ _ _ _ _ _ _).trans (mixed_congr (fun k => ld_at X o 0 hx z0 k q0 k h0 (by simp)) (fun k => ld_at yr o 0 hy z0 k q0 k h0 (by simp))
    (fun k => ld_at yd o 0 hy z0 k q0 k h0 (by simp)) (fun k n => ld_at wo 0 0 ht k n _ n (by simp) (by simp))
    (fun k n => ld_at wo 512 0 hb k n _ n rfl (by simp)) (fun _ => rfl) l)

/-- One stored tile of the hidden layer, from the blocks it is computed from. -/
theorem tile_of (X : Vec Ideal S1024x1024 .f32) (yr yd : Vec Ideal S1024x512 .bf16) (wo : Vec Ideal S1024x1024 .bf16) (g pre : Vec Ideal S1x1024 .f32)
    (wg wu : Vec Ideal S1024x2816 .bf16) (o c : ℕ)
    (hx : ∀ a, (![o, 0] : Fin 2 → ℕ) a + (![512, 1024] : Fin 2 → ℕ) a ≤ S1024x1024.size a)
    (hy : ∀ a, (![o, 0] : Fin 2 → ℕ) a + (![512, 512] : Fin 2 → ℕ) a ≤ S1024x512.size a)
    (ht : ∀ a, (![0, 0] : Fin 2 → ℕ) a + (![512, 1024] : Fin 2 → ℕ) a ≤ S1024x1024.size a)
    (hb : ∀ a, (![512, 0] : Fin 2 → ℕ) a + (![512, 1024] : Fin 2 → ℕ) a ≤ S1024x1024.size a)
    (hw : ∀ a, (![0, c] : Fin 2 → ℕ) a + (![1024, 256] : Fin 2 → ℕ) a ≤ S1024x2816.size a)
    (z0 : Fin 512) (z1 : Fin 256) (q0 : Fin 1024) (q1 : Fin 2816) (h0 : (q0 : ℕ) = o + z0) (h1 : (q1 : ℕ) = c + z1) :
    k0_pay10 (F := Ideal) (k0_pay5 (F := Ideal) (k0_pay3 (F := Ideal) pre) (k0_pay4 (F := Ideal)
        (View.ld X (Rect.unit (s := S1024x1024) ![o, 0] ![512, 1024] hx)) (View.ld yr (Rect.unit (s := S1024x512) ![o, 0] ![512, 512] hy))
        (View.ld wo (Rect.unit (s := S1024x1024) ![0, 0] ![512, 1024] ht)) (View.ld yd (Rect.unit (s := S1024x512) ![o, 0] ![512, 512] hy))
        (View.ld wo (Rect.unit (s := S1024x1024) ![512, 0] ![512, 1024] hb)) g))
        (View.ld wg (Rect.unit (s := S1024x2816) ![0, c] ![1024, 256] hw)) (View.ld wu (Rect.unit (s := S1024x2816) ![0, c] ![1024, 256] hw)) (ix2 z0 z1)
      = hidden (rms (mixed (fun k => X (ix2 q0 k)) (fun k => yr (ix2 q0 k)) (fun k => yd (ix2 q0 k)) (fun k n => wo (ix2 ⟨k.val, by omega⟩ n))
          (fun k n => wo (ix2 ⟨512 + k.val, by omega⟩ n)) (fun k => g (ix2 0 k))) (fun k => pre (ix2 0 k)))
          (fun k n => wg (ix2 k n)) (fun k n => wu (ix2 k n)) q1 :=
  (tile_at _ _ _ _ _).trans (hidden_tile
    (fun k => (norm_at _ _ _ _ _ _ _ _ _).trans (rms_congr (fun k => mixed_of X yr yd wo g o hx hy ht hb z0 q0 k h0) (fun k => rfl) _))
    (fun k => ld_at wg 0 c hw k z1 k q1 (by simp) h1) (fun k => ld_at wu 0 c hw k z1 k q1 (by simp) h1))

end Cert.MixIdeal.Half

end
-- ==== Proof.Half.MixBlock.lean ====
/- What one grid point of the kernel with the output projection leaves in its output block. -/
module

public import proofs.«01_k».proof.Proof.Half.MixParts
public import proofs.«01_k».proof.Proof.Gen.MixIdeal.Frame

@[expose] public section

set_option maxRecDepth 16384

noncomputable section

namespace Cert.MixIdeal.Half

open Idealize.ShloMosaic Idealize.ShloMosaic.TcCoe Idealize.SL.Sem
open Cert.MixIdeal Cert.MixIdeal.Gen Cert.Half

set_option maxHeartbeats 1600000 in
/-- The output block, entry by entry. -/
theorem out_at (c : Dev nD) (i : grid0.Coords) (arg1 : Memref sig .tc .vmem S1024x1024 .f32) (harg1 : arg1.IsWhole) (arg2 : Memref sig .tc .vmem S1024x512 .bf16) (harg2 : arg2.IsWhole) (arg3 : Memref sig .tc .vmem S1024x512 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x2816 .bf16) (harg8 : arg8.IsWhole) (arg9 : Memref sig .tc .vmem S1024x2816 .bf16) (harg9 : arg9.IsWhole) (arg10 : Memref sig .tc .vmem S2816x1024 .bf16) (harg10 : arg10.IsWhole) (arg11 : Memref sig .tc .vmem S1024x1024 .f32) (harg11 : arg11.IsWhole) (arg12 : Memref sig .tc .vmem S1024x2816 .bf16) (harg12 : arg12.IsWhole)
    (b0 : Vec Ideal S1024x1024 .f32) (b1 b2 : Vec Ideal S1024x512 .bf16) (b3 : Vec Ideal S1024x1024 .bf16) (b4 b5 b6 : Vec Ideal S1x1024 .f32)
    (b7 b8 : Vec Ideal S1024x2816 .bf16) (b9 : Vec Ideal S2816x1024 .bf16) (y : S1024x1024.Idx) :
    out0_A_10 (F := Ideal) c i arg1 harg1 arg2 harg2 arg3 harg3 arg4 harg4 arg5 harg5 arg6 harg6 arg7 harg7 arg8 harg8 arg9 harg9 arg10 harg10 arg11 harg11 arg12 harg12 b0 b1 b2 b3 b4 b5 b6 b7 b8 b9 y
      = step (mixed (fun k => b0 (ix2 (y 0) k)) (fun k => b1 (ix2 (y 0) k)) (fun k => b2 (ix2 (y 0) k)) (fun k n => b3 (ix2 ⟨k.val, by omega⟩ n))
            (fun k n => b3 (ix2 ⟨512 + k.val, by omega⟩ n)) (fun k => b4 (ix2 0 k)))
          (fun k => b5 (ix2 0 k)) (fun k => b6 (ix2 0 k)) (fun k n => b7 (ix2 k n)) (fun k n => b8 (ix2 k n)) (fun k n => b9 (ix2 k n)) (y 1) := by
  idx_vars y
  unfold step
  frame_out
  canon_tiles x h
  all_goals
    idx_vars x
    try simp only [same_close, same_mixed]
    refine (close_at _ _ _ _ _ _).trans ?_
    refine close_congr (Fin.ext h1.symm) (fun k => mixed_of _ _ _ _ _ _ _ _ _ _ _ _ _ (by omega)) (fun k => rfl) (fun k => ?_) (fun k n => rfl)
    refine readBack fun q hq0 hq1 => ?_
    canon_tiles z hz using (by
      first
        | (refine cover 0 (by decide) [] ?_ hq0; simp only [List.map_cons, List.map_nil, List.append_nil]; rfl)
        | (refine cover 512 (by decide) (tiles 0 (by decide)) ?_ hq0; simp only [List.map_cons, List.map_nil]; rfl))
    all_goals
      idx_vars z
      try simp only [same_norm]
      try simp only [same]
      first
        | exact tile_of _ _ _ _ _ _ _ _ _ _ _ _ _ _ _ _ _ _ _ (by omega) (by omega)
        | (exfalso; omega)

end Cert.MixIdeal.Half

end
-- ==== Proof.Half.MixArray.lean ====
/- The result array of the kernel with the output projection: the half-step of every mixed row. -/
module

public import proofs.«01_k».proof.Proof.Half.MixBlock
public import proofs.«01_k».proof.Proof.Gen.MixIdeal.Value

@[expose] public section

set_option maxRecDepth 16384

noncomputable section

namespace Cert.MixIdeal.Half

open Idealize.ShloMosaic Idealize.ShloMosaic.TcCoe Idealize.SL.Sem
open Cert.MixIdeal Cert.MixIdeal.Gen Cert.Half
open Idealize.ShloMosaic.Pipeline (Dat)

variable (m : (ℓ : Loc nD τ sig) → Buf (Elt Ideal) ℓ)

/-- The whole result, row by row. -/
def result (X : FVec Ideal S16384x1024 .f32) (yr yd : FVec Ideal S16384x512 .bf16) (wo : FVec Ideal S1x1024x1024 .f32)
    (g pre post : FVec Ideal S1x1024 .f32) (wg wu : FVec Ideal S1x1024x2816 .f32) (wd : FVec Ideal S1x2816x1024 .f32) : FVec Ideal S16384x1024 .f32 := fun i =>
  step (mixed (fun k => X (ix2 (i 0) k)) (fun k => yr (ix2 (i 0) k)) (fun k => yd (ix2 (i 0) k)) (fun k n => wo (ix3 0 ⟨k.val, by omega⟩ n))
      (fun k n => wo (ix3 0 ⟨512 + k.val, by omega⟩ n)) (fun k => g (ix2 0 k)))
    (fun k => pre (ix2 0 k)) (fun k => post (ix2 0 k))
    (fun k n => wg (ix3 0 k n)) (fun k n => wu (ix3 0 k n)) (fun k n => wd (ix3 0 k n)) (i 1)

/-- Which block of its array each window holds at a grid point. -/
theorem idx : ∀ t : Fin cfg0.N, win0_0.index t = ![t.val, 0] ∧ win0_1.index t = ![t.val, 0] ∧ win0_2.index t = ![t.val, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![t.val, 0] :=
  (by decide +kernel : ∀ t : Fin grid0.N, _)

/-- The result array after the run. -/
theorem final (c : Dev nD) : (dats m 0 c).arrAt 10 (cfgs 0).N
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) := by
  refine (dats m 0 c).arrAt_eq_of_covers 10 _ (by decide +kernel) fun t _ y => ?_
  blk_simp
  rw [after0_10]
  unfold outsAt0
  refine (out_at _ _ _ _ _ _ _ _ _ _ _ _ _ _ _ _ _ _ _ _ _ _ _ _ _ _ _ _ _ _ _ _ _ _ _ _ y).trans ?_
  unfold result
  refine step_congr ?_ (fun k => mixed_congr (fun k => ?_) (fun k => ?_) (fun k => ?_) (fun k n => ?_) (fun k n => ?_) (fun k => ?_) _)
    (fun k => ?_) (fun k => ?_) (fun k n => ?_) (fun k n => ?_) (fun k n => ?_)
  · refine Fin.ext ?_
    blk_simp [idx t]
  · blk_point [iblk, V, idx t]
  · blk_point [iblk, V, idx t]
  · blk_point [iblk, V, idx t]
  iterate 2
    simp only [iblk]
    entry_read
    blk_simp
    pointwise
    blk_point [idx t]
  · blk_point [iblk, V, idx t]
  · blk_point [iblk, V, idx t]
  · blk_point [iblk, V, idx t]
  all_goals
    simp only [iblk]
    entry_read
    blk_simp
    pointwise
    blk_point [idx t]

end Cert.MixIdeal.Half

end
-- ==== Proof.Half.FfnReference.lean ====
/- The feed-forward reference's result: the half-step of every row of the argument. -/
module

public import proofs.«01_k».proof.Proof.Half.Rows
public import proofs.«01_k».proof.Proof.Gen.FfnReferenceIdeal.Run

@[expose] public section

set_option maxRecDepth 16384

noncomputable section

namespace Cert.FfnReferenceIdeal.Half

open Idealize.ShloMosaic Idealize.ShloMosaic.TcCoe Idealize.SL.Sem
open Cert.FfnReferenceIdeal Cert.FfnReferenceIdeal.Gen Cert.FfnReferenceIdeal.Value Cert.Half

variable (m : (ℓ : Loc nD τ sig) → Buf (Elt Ideal) ℓ)

/-- Every row normalised, as the reference's operations put it. -/
def norm (y : FVec Ideal S16384x1024 .f32) (g : FVec Ideal S1x1024 .f32) : FVec Ideal S16384x1024 .f32 :=
  mulf (mulf y (broadcastInDim S16384x1024 ![0, 1] bcast_S16384x1_S16384x1024_0_1 (Host.rsqrt (addf (Host.divf (broadcastInDim S16384x1 ![0] bcast_S16384_S16384x1_0 (Host.reduceAdd (mulf y y) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (shapeCast _ g shapeCasts_S1x1024_S1024)))

/-- A product with a weight that widens the rows. -/
def widen (h : FVec Ideal S16384x1024 .f32) (w : FVec Ideal S1x1024x2816 .f32) : FVec Ideal S16384x2816 .f32 :=
  Host.dotGeneral dot_S16384x1024_S1024x2816_S16384x2816_1_0_0_1_n_n none h (shapeCast _ w shapeCasts_S1x1024x2816_S1024x2816)

/-- The hidden layer from its two products. -/
def gate (a u : FVec Ideal S16384x2816 .f32) : FVec Ideal S16384x2816 .f32 :=
  mulf (mulf a (Host.divf (broadcastInDim S16384x2816 ![] bcast_S_S16384x2816 (constant S_ .f32 0x3F800000#32)) (addf (broadcastInDim S16384x2816 ![] bcast_S_S16384x2816 (constant S_ .f32 0x3F800000#32)) (Host.exp (Host.negf a))))) u

/-- The product that brings the hidden layer back to the rows' width. -/
def narrow (a : FVec Ideal S16384x2816 .f32) (w : FVec Ideal S1x2816x1024 .f32) : FVec Ideal S16384x1024 .f32 :=
  Host.dotGeneral dot_S16384x2816_S2816x1024_S16384x1024_1_0_0_1_n_n none a (shapeCast _ w shapeCasts_S1x2816x1024_S2816x1024)

/-- The sum of the rows and half of others. -/
def half (x z : FVec Ideal S16384x1024 .f32) : FVec Ideal S16384x1024 .f32 :=
  addf x (mulf (broadcastInDim S16384x1024 ![] bcast_S_S16384x1024 (constant S_ .f32 0x3F000000#32)) z)

theorem norm_at (y : FVec Ideal S16384x1024 .f32) (g : FVec Ideal S1x1024 .f32) (r : Fin 16384) (l : Fin 1024) :
    norm y g (ix2 r l) = rms (fun k => y (ix2 r k)) (fun k => g (ix2 0 k)) l := by
  unfold norm rms
  pointwise

theorem widen_at (h : FVec Ideal S16384x1024 .f32) (w : FVec Ideal S1x1024x2816 .f32) (r : Fin 16384) (n : Fin 2816) :
    widen h w (ix2 r n) = ∑ k : Fin 1024, h (ix2 r k) * w (ix3 0 k n) := by
  unfold widen
  pointwise

theorem gate_at (a u : FVec Ideal S16384x2816 .f32) (r : Fin 16384) (n : Fin 2816) :
    gate a u (ix2 r n) = gated (a (ix2 r n)) (u (ix2 r n)) := by
  unfold gate gated Ideal.logistic
  pointwise

theorem narrow_at (a : FVec Ideal S16384x2816 .f32) (w : FVec Ideal S1x2816x1024 .f32) (r : Fin 16384) (l : Fin 1024) :
    narrow a w (ix2 r l) = ∑ n : Fin 2816, a (ix2 r n) * w (ix3 0 n l) := by
  unfold narrow
  pointwise

theorem half_at (x z : FVec Ideal S16384x1024 .f32) (r : Fin 16384) (l : Fin 1024) :
    half x z (ix2 r l) = x (ix2 r l) + Ideal.ofBits .f32 0x3F000000#32 * z (ix2 r l) := by
  unfold half
  pointwise

/-- The half-step of every row, as the reference's operations put it. -/
def whole (x : FVec Ideal S16384x1024 .f32) (pre post : FVec Ideal S1x1024 .f32) (wg wu : FVec Ideal S1x1024x2816 .f32) (wd : FVec Ideal S1x2816x1024 .f32) :
    FVec Ideal S16384x1024 .f32 :=
  half x (norm (narrow (gate (widen (norm x pre) wg) (widen (norm x pre) wu)) wd) post)

theorem whole_at (x : FVec Ideal S16384x1024 .f32) (pre post : FVec Ideal S1x1024 .f32) (wg wu : FVec Ideal S1x1024x2816 .f32) (wd : FVec Ideal S1x2816x1024 .f32)
    (r : Fin 16384) (l : Fin 1024) :
    whole x pre post wg wu wd (ix2 r l)
      = step (fun k => x (ix2 r k)) (fun k => pre (ix2 0 k)) (fun k => post (ix2 0 k)) (fun k n => wg (ix3 0 k n)) (fun k n => wu (ix3 0 k n))
          (fun k n => wd (ix3 0 k n)) l := by
  unfold whole step close Cert.Half.hidden
  simp only [half_at, norm_at, narrow_at, gate_at, widen_at]

/-- The reference's result is that. -/
theorem res_eq (c : Dev nD) : (show FVec Ideal S16384x1024 .f32 from res_out0 m c)
    = whole (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  unfold res_out0 res_main_v38 whole half norm narrow gate widen
  rfl

end Cert.FfnReferenceIdeal.Half

end
-- ==== Proof.Half.MixReference.lean ====
/- The result of the reference with the output projection: the half-step of every mixed row. -/
module

public import proofs.«01_k».proof.Proof.Half.FfnReference
public import proofs.«01_k».proof.Proof.Gen.MixReferenceIdeal.Run

@[expose] public section

set_option maxRecDepth 16384

noncomputable section

namespace Cert.MixReferenceIdeal.Half

open Idealize.ShloMosaic Idealize.ShloMosaic.TcCoe Idealize.SL.Sem
open Cert.MixReferenceIdeal Cert.MixReferenceIdeal.Gen Cert.MixReferenceIdeal.Value Cert.Half
open Cert.FfnReferenceIdeal.Half (norm norm_at whole whole_at)

variable (m : (ℓ : Loc nD τ sig) → Buf (Elt Ideal) ℓ)

/-- The output projection of the two mixers' rows side by side. -/
def project (yr yd : FVec Ideal S16384x512 .bf16) (wo : FVec Ideal S1x1024x1024 .f32) : FVec Ideal S16384x1024 .f32 :=
  Host.dotGeneral dot_S16384x1024_S1024x1024_S16384x1024_1_0_0_1_n_n none (concatenate S16384x1024 1 [⟨S16384x512, (extf .f32 yr bitsLt_bf16_f32)⟩, ⟨S16384x512, (extf .f32 yd bitsLt_bf16_f32)⟩] concatenates_S16384x512_S16384x512_S16384x1024_d1) (shapeCast _ wo shapeCasts_S1x1024x1024_S1024x1024)

theorem project_at (yr yd : FVec Ideal S16384x512 .bf16) (wo : FVec Ideal S1x1024x1024 .f32) (r : Fin 16384) (l : Fin 1024) :
    project yr yd wo (ix2 r l) = ∑ k : Fin 512, yr (ix2 r k) * wo (ix3 0 ⟨k.val, by omega⟩ l)
      + ∑ k : Fin 512, yd (ix2 r k) * wo (ix3 0 ⟨512 + k.val, by omega⟩ l) := by
  unfold project
  pointwise

/-- The rows with the mixers' rows joined to them, as the reference's operations put it. -/
def join (x : FVec Ideal S16384x1024 .f32) (yr yd : FVec Ideal S16384x512 .bf16) (wo : FVec Ideal S1x1024x1024 .f32) (g : FVec Ideal S1x1024 .f32) :
    FVec Ideal S16384x1024 .f32 :=
  addf x (norm (project yr yd wo) g)

theorem join_at (x : FVec Ideal S16384x1024 .f32) (yr yd : FVec Ideal S16384x512 .bf16) (wo : FVec Ideal S1x1024x1024 .f32) (g : FVec Ideal S1x1024 .f32)
    (r : Fin 16384) (l : Fin 1024) :
    join x yr yd wo g (ix2 r l)
      = mixed (fun k => x (ix2 r k)) (fun k => yr (ix2 r k)) (fun k => yd (ix2 r k)) (fun k n => wo (ix3 0 ⟨k.val, by omega⟩ n))
          (fun k n => wo (ix3 0 ⟨512 + k.val, by omega⟩ n)) (fun k => g (ix2 0 k)) l := by
  show x (ix2 r l) + norm (project yr yd wo) g (ix2 r l) = _
  rw [norm_at]
  simp only [project_at]
  rfl

/-- The reference's result. -/
theorem res_eq (c : Dev nD) : (show FVec Ideal S16384x1024 .f32 from res_out0 m c)
    = whole (join (m ((c : Thread nD τ).loc main_arg0)) (m ((c : Thread nD τ).loc main_arg1)) (m ((c : Thread nD τ).loc main_arg2)) (m ((c : Thread nD τ).loc main_arg3)) (m ((c : Thread nD τ).loc main_arg4)))
        (m ((c : Thread nD τ).loc main_arg5)) (m ((c : Thread nD τ).loc main_arg6)) (m ((c : Thread nD τ).loc main_arg7)) (m ((c : Thread nD τ).loc main_arg8)) (m ((c : Thread nD τ).loc main_arg9)) := by
  unfold res_out0 res_main_v58
  rfl

end Cert.MixReferenceIdeal.Half

end
-- ==== Proof.Half.MixClaim.lean ====
/- The claim that the second feed-forward kernel and its reference agree over the extended reals. -/
module

public import proofs.«01_k».proof.Defs
public import proofs.«01_k».proof.Proof.Half.MixArray
public import proofs.«01_k».proof.Proof.Half.MixReference

@[expose] public section

set_option maxRecDepth 16384

noncomputable section

namespace Cert.Half

open Idealize.ShloMosaic Idealize.ShloMosaic.TcCoe Idealize.SL.Sem

/-- The reference's result is the kernel's. -/
theorem mix_same (x : FVec Ideal ⟨2, ![16384, 1024]⟩ .f32) (yr yd : FVec Ideal ⟨2, ![16384, 512]⟩ .bf16) (wo : FVec Ideal ⟨3, ![1, 1024, 1024]⟩ .f32) (g pre post : FVec Ideal ⟨2, ![1, 1024]⟩ .f32) (wg wu : FVec Ideal ⟨3, ![1, 1024, 2816]⟩ .f32) (wd : FVec Ideal ⟨3, ![1, 2816, 1024]⟩ .f32) :
    Cert.FfnReferenceIdeal.Half.whole (Cert.MixReferenceIdeal.Half.join x yr yd wo g) pre post wg wu wd = Cert.MixIdeal.Half.result x yr yd wo g pre post wg wu wd := by
  funext i
  idx_vars i
  refine (Cert.FfnReferenceIdeal.Half.whole_at _ _ _ _ _ _ _ _).trans ?_
  exact step_congr rfl (fun k => Cert.MixReferenceIdeal.Half.join_at _ _ _ _ _ _ _) (fun _ => rfl) (fun _ => rfl) (fun _ _ => rfl) (fun _ _ => rfl) (fun _ _ => rfl)

attribute [local instance] Cert.MixIdeal.Gen.facts Cert.MixReferenceIdeal.Gen.facts

/-- The reference's frame: its run keeps the arguments, and it declares no semaphore. -/
theorem mix_reference_frame : Cert.quiescent_MixReferenceIdeal := fun m ρ _ =>
  (θ_run _ _ _).mono (fun r h => ⟨fun c => (h c).2, sem_eq_zero_of_no_sems (by decide) r.2⟩) (Cert.MixReferenceIdeal.Value.run (F := Ideal) m ρ)

/-- The kernel and its reference end with equal results. -/
theorem mix : Cert.algebraic_MixIdeal_MixReferenceIdeal := by
  intro m ρ m' ρ' _ hag
  refine ⟨fun c => Cert.MixIdeal.Half.result (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)), (θ_run _ _ _).mono (fun _ h c => ?_) (Cert.MixIdeal.Value.run_blocks m ρ),
    (θ_run _ _ _).mono (fun _ h c => ?_) (Cert.MixReferenceIdeal.Value.run (F := Ideal) m' ρ')⟩
  · exact ⟨(h c).1.trans (Cert.MixIdeal.Half.final m c), (h c).2⟩
  · obtain ⟨e0, e1, e2, e3, e4, e5, e6, e7, e8, e9⟩ := hag c
    refine ⟨(h c).1.trans ((Cert.MixReferenceIdeal.Half.res_eq m' c).trans ?_), (h c).2⟩
    rw [e0, e1, e2, e3, e4, e5, e6, e7, e8, e9]
    exact mix_same _ _ _ _ _ _ _ _ _ _

end Cert.Half

end
-- ==== Proof.Half.FfnParts.lean ====
/- What the feed-forward kernel's stores hold, entry by entry. -/
module

public import proofs.«01_k».proof.Proof.Gen.FfnIdeal.Skeleton
public import proofs.«01_k».proof.Proof.Half.Rows
public import proofs.«01_k».proof.Proof.Half.Tiles
public import Idealize.ShloMosaic.Lib.Pipeline.ValueKit

@[expose] public section

set_option maxRecDepth 16384

noncomputable section

namespace Cert.FfnIdeal.Half

open Idealize.ShloMosaic Idealize.ShloMosaic.TcCoe Idealize.SL.Sem
open Cert.FfnIdeal Cert.FfnIdeal.Gen Cert.Half

/-- The normalised rows. -/
theorem norm_at (x : FVec Ideal S512x1024 .f32) (g : FVec Ideal S1x1024 .f32) (r : Fin 512) (l : Fin 1024) :
    k0_pay1 (F := Ideal) x g (ix2 r l) = rms (fun k => x (ix2 r k)) (fun k => g (ix2 0 k)) l := by
  pointwise! [k0_pay1, rms]

/-- One tile of the hidden layer. -/
theorem tile_at (h : FVec Ideal S512x1024 .bf16) (wg wu : FVec Ideal S1024x256 .bf16) (r : Fin 512) (c : Fin 256) :
    k0_pay7 (F := Ideal) h wg wu (ix2 r c) = gated (∑ k : Fin 1024, h (ix2 r k) * wg (ix2 k c)) (∑ k : Fin 1024, h (ix2 r k) * wu (ix2 k c)) := by
  pointwise! [k0_pay7, gated]

/-- The kernel's tiles are one computation. -/
theorem same (h : FVec Ideal S512x1024 .bf16) (wg wu : FVec Ideal S1024x256 .bf16) :
    k0_pay8 (F := Ideal) h wg wu = k0_pay7 (F := Ideal) h wg wu
    ∧ k0_pay11 (F := Ideal) h wg wu = k0_pay7 (F := Ideal) h wg wu
    ∧ k0_pay12 (F := Ideal) h wg wu = k0_pay7 (F := Ideal) h wg wu
    ∧ k0_pay13 (F := Ideal) h wg wu = k0_pay7 (F := Ideal) h wg wu
    ∧ k0_pay14 (F := Ideal) h wg wu = k0_pay7 (F := Ideal) h wg wu
    ∧ k0_pay17 (F := Ideal) h wg wu = k0_pay7 (F := Ideal) h wg wu
    ∧ k0_pay18 (F := Ideal) h wg wu = k0_pay7 (F := Ideal) h wg wu
    ∧ k0_pay21 (F := Ideal) h wg wu = k0_pay7 (F := Ideal) h wg wu
    ∧ k0_pay26 (F := Ideal) h wg wu = k0_pay7 (F := Ideal) h wg wu
    ∧ k0_pay27 (F := Ideal) h wg wu = k0_pay7 (F := Ideal) h wg wu
    ∧ k0_pay30 (F := Ideal) h wg wu = k0_pay7 (F := Ideal) h wg wu
    ∧ k0_pay31 (F := Ideal) h wg wu = k0_pay7 (F := Ideal) h wg wu
    ∧ k0_pay32 (F := Ideal) h wg wu = k0_pay7 (F := Ideal) h wg wu
    ∧ k0_pay33 (F := Ideal) h wg wu = k0_pay7 (F := Ideal) h wg wu
    ∧ k0_pay36 (F := Ideal) h wg wu = k0_pay7 (F := Ideal) h wg wu
    ∧ k0_pay10 (F := Ideal) h (k0_pay9 (F := Ideal) h wg) wu = k0_pay7 (F := Ideal) h wg wu
    ∧ k0_pay16 (F := Ideal) (k0_pay15 (F := Ideal) h wg wu) = k0_pay7 (F := Ideal) h wg wu
    ∧ k0_pay25 (F := Ideal) (k0_pay22 (F := Ideal) h wg) (k0_pay23 (F := Ideal) h wu) (k0_pay24 (F := Ideal) h wg) = k0_pay7 (F := Ideal) h wg wu
    ∧ k0_pay29 (F := Ideal) h (k0_pay28 (F := Ideal) h wg) wu = k0_pay7 (F := Ideal) h wg wu
    ∧ k0_pay35 (F := Ideal) (k0_pay34 (F := Ideal) h wg wu) = k0_pay7 (F := Ideal) h wg wu := by
  refine ⟨?_, ?_, ?_, ?_, ?_, ?_, ?_, ?_, ?_, ?_, ?_, ?_, ?_, ?_, ?_, ?_, ?_, ?_, ?_, ?_⟩ <;> rfl

/-- The first tile, which the kernel computes from the rows themselves. -/
theorem same_first (x : FVec Ideal S512x1024 .f32) (g : FVec Ideal S1x1024 .f32) (wg wu : FVec Ideal S1024x256 .bf16) :
    k0_pay6 (F := Ideal) (k0_pay3 (F := Ideal) x g wg) (k0_pay4 (F := Ideal) x g wu) (k0_pay5 (F := Ideal) x g wg) = k0_pay7 (F := Ideal) (k0_pay1 (F := Ideal) x g) wg wu := rfl

/-- Both halves of the rows are normalised alike. -/
theorem same_norm (x : FVec Ideal S512x1024 .f32) (g : FVec Ideal S1x1024 .f32) : k0_pay2 (F := Ideal) x g = k0_pay1 (F := Ideal) x g := rfl

/-- Both halves of the rows are closed alike. -/
theorem same_close (x : FVec Ideal S512x1024 .f32) (a : FVec Ideal S512x2816 .bf16) (wd : FVec Ideal S2816x1024 .bf16) (g : FVec Ideal S1x1024 .f32) :
    k0_pay20 (F := Ideal) x (k0_pay19 (F := Ideal) a wd) g = k0_pay37 (F := Ideal) x a wd g := rfl

/-- The rows the kernel leaves, from the hidden layer it reads back. -/
theorem close_at (x : FVec Ideal S512x1024 .f32) (a : FVec Ideal S512x2816 .bf16) (wd : FVec Ideal S2816x1024 .bf16) (g : FVec Ideal S1x1024 .f32)
    (r : Fin 512) (l : Fin 1024) :
    k0_pay37 (F := Ideal) x a wd g (ix2 r l)
      = close (fun k => x (ix2 r k)) (fun k => g (ix2 0 k)) (fun c => a (ix2 r c)) (fun c n => wd (ix2 c n)) l := by
  pointwise! [k0_pay37, close, rms]

/-- One stored tile of the hidden layer, from the blocks it is computed from. -/
theorem tile_of (X : Vec Ideal S1024x1024 .f32) (g : Vec Ideal S1x1024 .f32) (wg wu : Vec Ideal S1024x2816 .bf16) (o c : ℕ)
    (hx : ∀ a, (![o, 0] : Fin 2 → ℕ) a + (![512, 1024] : Fin 2 → ℕ) a ≤ S1024x1024.size a)
    (hw : ∀ a, (![0, c] : Fin 2 → ℕ) a + (![1024, 256] : Fin 2 → ℕ) a ≤ S1024x2816.size a)
    (z0 : Fin 512) (z1 : Fin 256) (q0 : Fin 1024) (q1 : Fin 2816) (h0 : (q0 : ℕ) = o + z0) (h1 : (q1 : ℕ) = c + z1) :
    k0_pay7 (F := Ideal) (k0_pay1 (F := Ideal) (View.ld X (Rect.unit (s := S1024x1024) ![o, 0] ![512, 1024] hx)) g)
        (View.ld wg (Rect.unit (s := S1024x2816) ![0, c] ![1024, 256] hw)) (View.ld wu (Rect.unit (s := S1024x2816) ![0, c] ![1024, 256] hw)) (ix2 z0 z1)
      = hidden (rms (fun k => X (ix2 q0 k)) (fun k => g (ix2 0 k))) (fun k n => wg (ix2 k n)) (fun k n => wu (ix2 k n)) q1 :=
  (tile_at _ _ _ _ _).trans (hidden_tile
    (fun k => (norm_at _ _ _ _).trans (rms_congr (fun k => ld_at X o 0 hx z0 k q0 k h0 (by simp)) (fun k => rfl) _))
    (fun k => ld_at wg 0 c hw k z1 k q1 (by simp) h1) (fun k => ld_at wu 0 c hw k z1 k q1 (by simp) h1))

end Cert.FfnIdeal.Half

end
-- ==== Proof.Half.FfnBlock.lean ====
/- What one grid point of the feed-forward kernel leaves in its output block: the half-step of every row. -/
module

public import proofs.«01_k».proof.Proof.Half.FfnParts
public import proofs.«01_k».proof.Proof.Gen.FfnIdeal.Frame

@[expose] public section

set_option maxRecDepth 16384

noncomputable section

namespace Cert.FfnIdeal.Half

open Idealize.ShloMosaic Idealize.ShloMosaic.TcCoe Idealize.SL.Sem
open Cert.FfnIdeal Cert.FfnIdeal.Gen Cert.Half

set_option maxHeartbeats 1600000 in
/-- The output block, entry by entry. -/
theorem out_at (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x2816 .bf16) (harg4 : arg4.IsWhole) (arg5 : Memref sig .tc .vmem S1024x2816 .bf16) (harg5 : arg5.IsWhole) (arg6 : Memref sig .tc .vmem S2816x1024 .bf16) (harg6 : arg6.IsWhole) (arg7 : Memref sig .tc .vmem S1024x1024 .f32) (harg7 : arg7.IsWhole) (arg8 : Memref sig .tc .vmem S1024x2816 .bf16) (harg8 : arg8.IsWhole)
    (b0 : Vec Ideal S1024x1024 .f32) (b1 : Vec Ideal S1x1024 .f32) (b2 : Vec Ideal S1x1024 .f32) (b3 : Vec Ideal S1024x2816 .bf16) (b4 : Vec Ideal S1024x2816 .bf16) (b5 : Vec Ideal S2816x1024 .bf16)
    (y : S1024x1024.Idx) :
    out0_A_6 (F := Ideal) c i arg1 harg1 arg2 harg2 arg3 harg3 arg4 harg4 arg5 harg5 arg6 harg6 arg7 harg7 arg8 harg8 b0 b1 b2 b3 b4 b5 y
      = step (fun k => b0 (ix2 (y 0) k)) (fun k => b1 (ix2 0 k)) (fun k => b2 (ix2 0 k)) (fun k n => b3 (ix2 k n)) (fun k n => b4 (ix2 k n))
          (fun k n => b5 (ix2 k n)) (y 1) := by
  idx_vars y
  unfold step
  frame_out
  canon_tiles x h
  all_goals
    idx_vars x
    try simp only [same_close]
    refine (close_at _ _ _ _ _ _).trans ?_
    refine close_congr (Fin.ext h1.symm) (fun k => ld_at _ _ _ _ _ _ _ _ (by omega) (by simp)) (fun k => rfl) (fun k => ?_) (fun k n => rfl)
    refine readBack fun q hq0 hq1 => ?_
    canon_tiles z hz using (by
      first
        | (refine cover 0 (by decide) [] ?_ hq0; simp only [List.map_cons, List.map_nil, List.append_nil]; rfl)
        | (refine cover 512 (by decide) (tiles 0 (by decide)) ?_ hq0; simp only [List.map_cons, List.map_nil]; rfl))
    all_goals
      idx_vars z
      try simp only [same, same_first, same_norm]
      first
        | exact tile_of _ _ _ _ _ _ _ _ _ _ _ _ (by omega) (by omega)
        | (exfalso; omega)

end Cert.FfnIdeal.Half

end
-- ==== Proof.Half.FfnArray.lean ====
/- The feed-forward kernel's result array: the half-step of every row of the argument. -/
module

public import proofs.«01_k».proof.Proof.Half.FfnBlock
public import proofs.«01_k».proof.Proof.Gen.FfnIdeal.Value

@[expose] public section

set_option maxRecDepth 16384

noncomputable section

namespace Cert.FfnIdeal.Half

open Idealize.ShloMosaic Idealize.ShloMosaic.TcCoe Idealize.SL.Sem
open Cert.FfnIdeal Cert.FfnIdeal.Gen Cert.Half
open Idealize.ShloMosaic.Pipeline (Dat)

variable (m : (ℓ : Loc nD τ sig) → Buf (Elt Ideal) ℓ)

/-- The whole result, row by row. -/
def result (X : FVec Ideal S16384x1024 .f32) (pre post : FVec Ideal S1x1024 .f32) (wg wu : FVec Ideal S1x1024x2816 .f32)
    (wd : FVec Ideal S1x2816x1024 .f32) : FVec Ideal S16384x1024 .f32 := fun i =>
  step (fun k => X (ix2 (i 0) k)) (fun k => pre (ix2 0 k)) (fun k => post (ix2 0 k))
    (fun k n => wg (ix3 0 k n)) (fun k n => wu (ix3 0 k n)) (fun k n => wd (ix3 0 k n)) (i 1)

/-- Which block of its array each window holds at a grid point. -/
theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![t.val, 0] :=
  (by decide +kernel : ∀ t : Fin grid0.N, _)

/-- The result array after the run. -/
theorem final (c : Dev nD) : (dats m 0 c).arrAt 6 (cfgs 0).N
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]
  unfold outsAt0
  refine (out_at _ _ _ _ _ _ _ _ _ _ _ _ _ _ _ _ _ _ _ _ _ _ _ _ y).trans ?_
  unfold result
  refine step_congr ?_ (fun k => ?_) (fun k => ?_) (fun k => ?_) (fun k n => ?_) (fun k n => ?_) (fun k n => ?_)
  · refine Fin.ext ?_
    blk_simp [idx t]
  · blk_point [iblk, V, idx t]
  · blk_point [iblk, V, idx t]
  · blk_point [iblk, V, idx t]
  all_goals
    simp only [iblk]
    entry_read
    blk_simp
    pointwise
    blk_point [idx t]

end Cert.FfnIdeal.Half

end
-- ==== Proof.Half.FfnClaim.lean ====
/- The claim that the feed-forward kernel and its reference agree over the extended reals. -/
module

public import proofs.«01_k».proof.Defs
public import proofs.«01_k».proof.Proof.Half.FfnArray
public import proofs.«01_k».proof.Proof.Half.FfnReference

@[expose] public section

set_option maxRecDepth 16384

noncomputable section

namespace Cert.Half

open Idealize.ShloMosaic Idealize.ShloMosaic.TcCoe Idealize.SL.Sem

/-- The reference's result is the kernel's. -/
theorem ffn_same (x : FVec Ideal ⟨2, ![16384, 1024]⟩ .f32) (pre post : FVec Ideal ⟨2, ![1, 1024]⟩ .f32) (wg wu : FVec Ideal ⟨3, ![1, 1024, 2816]⟩ .f32) (wd : FVec Ideal ⟨3, ![1, 2816, 1024]⟩ .f32) :
    Cert.FfnReferenceIdeal.Half.whole x pre post wg wu wd = Cert.FfnIdeal.Half.result x pre post wg wu wd := by
  funext i
  idx_vars i
  exact Cert.FfnReferenceIdeal.Half.whole_at _ _ _ _ _ _ _ _

attribute [local instance] Cert.FfnIdeal.Gen.facts Cert.FfnReferenceIdeal.Gen.facts

/-- The reference's frame: its run keeps the arguments, and it declares no semaphore. -/
theorem ffn_reference_frame : Cert.quiescent_FfnReferenceIdeal := fun m ρ _ =>
  (θ_run _ _ _).mono (fun r h => ⟨fun c => (h c).2, sem_eq_zero_of_no_sems (by decide) r.2⟩) (Cert.FfnReferenceIdeal.Value.run (F := Ideal) m ρ)

/-- The kernel and its reference end with equal results. -/
theorem ffn : Cert.algebraic_FfnIdeal_FfnReferenceIdeal := by
  intro m ρ m' ρ' _ hag
  refine ⟨fun c => Cert.FfnIdeal.Half.result (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)), (θ_run _ _ _).mono (fun _ h c => ?_) (Cert.FfnIdeal.Value.run_blocks m ρ),
    (θ_run _ _ _).mono (fun _ h c => ?_) (Cert.FfnReferenceIdeal.Value.run (F := Ideal) m' ρ')⟩
  · exact ⟨(h c).1.trans (Cert.FfnIdeal.Half.final m c), (h c).2⟩
  · obtain ⟨e0, e1, e2, e3, e4, e5⟩ := hag c
    refine ⟨(h c).1.trans ((Cert.FfnReferenceIdeal.Half.res_eq m' c).trans ?_), (h c).2⟩
    rw [e0, e1, e2, e3, e4, e5]
    exact ffn_same _ _ _ _ _ _

end Cert.Half

end
-- ==== Proof.Attn.Model.lean ====
/- The attention kernel at one grid point, step by step: the three scratch buffers as lists of the writes they took,
   and the scores, strips and items that write them, with the strip, item and buffer numbers as parameters. -/
module

public import proofs.«01_k».proof.Proof.Gen.KernelIdeal.Frame

@[expose] public section

set_option maxRecDepth 16384

noncomputable section

namespace Cert.KernelIdeal.Attn

open Idealize.ShloMosaic Idealize.ShloMosaic.TcCoe Idealize.SL.Sem
open Cert.KernelIdeal Cert.KernelIdeal.Gen

variable {F : FTy → Type} [FloatOps F] [Named F]

/-- The scratch buffers: accumulators, scores, running maxima. -/
structure St (F : FTy → Type) where
  A : List (View.Piece (Elt F) S2x2x144x2048 .f32)
  S : List (View.Piece (Elt F) S2x2x512x2048 .f32)
  M : List (View.Piece (Elt F) S2x2x1x2048 .f32)

/-- What the steps read besides the scratch buffers: the blocks of the queries, keys and values, and the views of the scratch buffers. -/
structure Env (F : FTy → Type) where
  Q : Fin 2 → Vec F S1x2048x128 .bf16
  K : Fin 8 → Vec F S1x512x128 .bf16
  V : Fin 8 → Vec F S1x128x512 .bf16
  H : Fin 8 → Vec F S1x128x256 .bf16
  v11 : View sig .tc .vmem S2x2x144x2048 .f32
  v12 : View sig .tc .vmem S2x2x512x2048 .f32
  v13 : View sig .tc .vmem S2x2x1x2048 .f32

theorem inbA (qi c : Fin 2) (w : Fin 8) : ∀ a, ![(qi : ℕ), c, 0, 256 * w] a + S1x1x144x256.size a ≤ S2x2x144x2048.size a := by
  revert qi c w; decide +kernel
theorem inbM (qi c : Fin 2) (w : Fin 8) : ∀ a, ![(qi : ℕ), c, 0, 256 * w] a + S1x1x1x256.size a ≤ S2x2x1x2048.size a := by
  revert qi c w; decide +kernel
theorem inbS512 (s c : Fin 2) (w : Fin 8) : ∀ a, ![(s : ℕ), c, 0, 256 * w] a + S1x1x512x256.size a ≤ S2x2x512x2048.size a := by
  revert s c w; decide +kernel
theorem inbS256 (s c : Fin 2) (w : Fin 8) : ∀ a, ![(s : ℕ), c, 0, 256 * w] a + S1x1x256x256.size a ≤ S2x2x512x2048.size a := by
  revert s c w; decide +kernel
theorem inbT0 (s c : Fin 2) : ∀ a, ![(s : ℕ), c, 0, 0] a + S1x1x512x2048.size a ≤ S2x2x512x2048.size a := by
  revert s c; decide +kernel
theorem inbT1 (s c : Fin 2) : ∀ a, ![(s : ℕ), c, 0, 512] a + S1x1x512x1536.size a ≤ S2x2x512x2048.size a := by
  revert s c; decide +kernel
theorem inbT2 (s c : Fin 2) : ∀ a, ![(s : ℕ), c, 0, 1024] a + S1x1x512x1024.size a ≤ S2x2x512x2048.size a := by
  revert s c; decide +kernel
theorem inbT3 (s c : Fin 2) : ∀ a, ![(s : ℕ), c, 0, 1536] a + S1x1x512x512.size a ≤ S2x2x512x2048.size a := by
  revert s c; decide +kernel

/-- The rectangle of one strip of the accumulators, of the maxima, and of the scores. -/
abbrev rA (qi c : Fin 2) (w : Fin 8) : Rect S2x2x144x2048 := Rect.unit ![(qi : ℕ), c, 0, 256 * w] S1x1x144x256.size (inbA qi c w)
abbrev rM (qi c : Fin 2) (w : Fin 8) : Rect S2x2x1x2048 := Rect.unit ![(qi : ℕ), c, 0, 256 * w] S1x1x1x256.size (inbM qi c w)
abbrev rS512 (s c : Fin 2) (w : Fin 8) : Rect S2x2x512x2048 := Rect.unit ![(s : ℕ), c, 0, 256 * w] S1x1x512x256.size (inbS512 s c w)
abbrev rS256 (s c : Fin 2) (w : Fin 8) : Rect S2x2x512x2048 := Rect.unit ![(s : ℕ), c, 0, 256 * w] S1x1x256x256.size (inbS256 s c w)

/-- The queries with one half of the lanes kept: the first for `c = 0`, the second for `c = 1`. -/
def half (c : Fin 2) (q : Vec F S1x2048x128 .bf16) : FVec F S2048x128 .bf16 :=
  match c with
  | 0 => k0_pay9 (iota .tc S1x128 32 [1] iota_S1x128_d1_w32) q
  | 1 => k0_pay10 (iota .tc S1x128 32 [1] iota_S1x128_d1_w32) q

/-- One tile of scores, keys by queries: the queries from `512 u` on. -/
def tile0 (c : Fin 2) (k : Vec F S1x512x128 .bf16) (q : Vec F S1x2048x128 .bf16) : FVec F S1x1x512x2048 .f32 :=
  shapeCast S1x1x512x2048 (matmul dot_S512x128_S2048x128_S512x2048_1_1_0_0_n_n none (k0_pay6 k) (half c q) (constant S512x2048 .f32 0x00000000#32))
    shapeCasts_S512x2048_S1x1x512x2048
def tile1 (c : Fin 2) (k : Vec F S1x512x128 .bf16) (q : Vec F S1x2048x128 .bf16) : FVec F S1x1x512x1536 .f32 :=
  shapeCast S1x1x512x1536 (matmul dot_S512x128_S1536x128_S512x1536_1_1_0_0_n_n none (k0_pay6 k)
    (extractStridedSlice S1536x128 ![512, 0] (half c q) slices_S2048x128_o512_0_S1536x128) (constant S512x1536 .f32 0x00000000#32))
    shapeCasts_S512x1536_S1x1x512x1536
def tile2 (c : Fin 2) (k : Vec F S1x512x128 .bf16) (q : Vec F S1x2048x128 .bf16) : FVec F S1x1x512x1024 .f32 :=
  shapeCast S1x1x512x1024 (matmul dot_S512x128_S1024x128_S512x1024_1_1_0_0_n_n none (k0_pay6 k)
    (extractStridedSlice S1024x128 ![1024, 0] (half c q) slices_S2048x128_o1024_0_S1024x128) (constant S512x1024 .f32 0x00000000#32))
    shapeCasts_S512x1024_S1x1x512x1024
def tile3 (c : Fin 2) (k : Vec F S1x512x128 .bf16) (q : Vec F S1x2048x128 .bf16) : FVec F S1x1x512x512 .f32 :=
  shapeCast S1x1x512x512 (matmul dot_S512x128_S512x128_S512x512_1_1_0_0_n_n none (k0_pay6 k)
    (extractStridedSlice S512x128 ![1536, 0] (half c q) slices_S2048x128_o1536_0_S512x128) (constant S512x512 .f32 0x00000000#32))
    shapeCasts_S512x512_S1x1x512x512

/-- The write of one tile of scores. -/
def piece (s c : Fin 2) (u : Fin 4) (k : Vec F S1x512x128 .bf16) (q : Vec F S1x2048x128 .bf16) : View.Piece (Elt F) S2x2x512x2048 .f32 :=
  match u with
  | 0 => ⟨Rect.unit (s := S2x2x512x2048) ![(s : ℕ), c, 0, 0] S1x1x512x2048.size (inbT0 s c), tile0 c k q⟩
  | 1 => ⟨Rect.unit (s := S2x2x512x2048) ![(s : ℕ), c, 0, 512] S1x1x512x1536.size (inbT1 s c), tile1 c k q⟩
  | 2 => ⟨Rect.unit (s := S2x2x512x2048) ![(s : ℕ), c, 0, 1024] S1x1x512x1024.size (inbT2 s c), tile2 c k q⟩
  | 3 => ⟨Rect.unit (s := S2x2x512x2048) ![(s : ℕ), c, 0, 1536] S1x1x512x512.size (inbT3 s c), tile3 c k q⟩

/-- The scores of queries `qi` against key block `j`, into slot `s`. -/
def scores (E : Env F) (s qi : Fin 2) (j : Fin 8) (u : Fin 4) (st : St F) : St F :=
  ⟨st.A, piece s 1 u (E.K j) (E.Q qi) :: piece s 0 u (E.K j) (E.Q qi) :: st.S, st.M⟩

/-- The scores of a strip of 256 keys, those after the query masked. -/
def mask256 (u : Fin 4) (x : Vec F S1x1x256x256 .f32) : FVec F S256x256 .f32 :=
  select (cmpi .sle (addi (iota .tc S256x256 32 [0] iota_S256x256_d0_w32) (broadcast S256x256 (BitVec.ofNat 32 (512 * u))))
      (addi (iota .tc S256x256 32 [1] iota_S256x256_d1_w32) (broadcast S256x256 (BitVec.ofNat 32 (512 * u)))))
    (shapeCast S256x256 x shapeCasts_S1x1x256x256_S256x256) (broadcast S256x256 (Named.named κ "mask" 0xF149F2CA#32))

/-- The scores of a strip of 512 keys, those after the query masked. -/
def mask512 (u : Fin 4) (x : Vec F S1x1x512x256 .f32) : FVec F S512x256 .f32 :=
  select (cmpi .sle (addi (iota .tc S512x256 32 [0] iota_S512x256_d0_w32) (broadcast S512x256 (BitVec.ofNat 32 (512 * u))))
      (addi (iota .tc S512x256 32 [1] iota_S512x256_d1_w32) (broadcast S512x256 (BitVec.ofNat 32 (512 * u + 256)))))
    (shapeCast S512x256 x shapeCasts_S1x1x512x256_S512x256) (broadcast S512x256 (Named.named κ "mask" 0xF149F2CA#32))

/-- The running maximum after a strip. -/
def max256 (s : FVec F S256x256 .f32) (m : Vec F S1x1x1x256 .f32) : FVec F S1x256 .f32 :=
  maximumf (shapeCast S1x256 m shapeCasts_S1x1x1x256_S1x256)
    (shapeCast S1x256 (multiReduction .maximumf [0] S256 s 0xFF800000#32 reduces_S256x256_S256 (.inl rfl) rfl) shapeCasts_S256_S1x256)
def max512 (s : FVec F S512x256 .f32) (m : Vec F S1x1x1x256 .f32) : FVec F S1x256 .f32 :=
  maximumf (shapeCast S1x256 m shapeCasts_S1x1x1x256_S1x256)
    (shapeCast S1x256 (multiReduction .maximumf [0] S256 s 0xFF800000#32 reduces_S512x256_S256 (.inl rfl) rfl) shapeCasts_S256_S1x256)

/-- The accumulator after a strip: rescaled to the new maximum, plus the weighted values (and, below them, the weights). -/
def acc256 (s : FVec F S256x256 .f32) (m : Vec F S1x1x1x256 .f32) (v : Vec F S1x128x256 .bf16) (a : Vec F S1x1x144x256 .f32) : FVec F S1x1x144x256 .f32 :=
  shapeCast S1x1x144x256
    (addf
      (mulf (broadcastTo S144x256 (exp2 (subf (shapeCast S1x256 m shapeCasts_S1x1x1x256_S1x256) (max256 s m))) broadcasts_S1x256_S144x256)
        (shapeCast S144x256 a shapeCasts_S1x1x144x256_S144x256))
      (matmul dot_S144x256_S256x256_S144x256_1_0_0_1_n_n none
        (concatenate S144x256 0 [⟨S128x256, shapeCast S128x256 v shapeCasts_S1x128x256_S128x256⟩,
          ⟨S16x256, extractStridedSlice S16x256 ![0, 0] k0_pay3 slices_S16x512_o0_0_S16x256⟩] concatenates_S128x256_S16x256_S144x256_d0)
        (truncf .bf16 (exp2 (subf s (broadcastTo S256x256 (max256 s m) broadcasts_S1x256_S256x256))) bitsLt_bf16_f32)
        (constant S144x256 .f32 0x00000000#32)))
    shapeCasts_S144x256_S1x1x144x256
def acc512 (s : FVec F S512x256 .f32) (m : Vec F S1x1x1x256 .f32) (v : Vec F S1x128x512 .bf16) (a : Vec F S1x1x144x256 .f32) : FVec F S1x1x144x256 .f32 :=
  shapeCast S1x1x144x256
    (addf
      (mulf (broadcastTo S144x256 (exp2 (subf (shapeCast S1x256 m shapeCasts_S1x1x1x256_S1x256) (max512 s m))) broadcasts_S1x256_S144x256)
        (shapeCast S144x256 a shapeCasts_S1x1x144x256_S144x256))
      (matmul dot_S144x512_S512x256_S144x256_1_0_0_1_n_n none
        (concatenate S144x512 0 [⟨S128x512, shapeCast S128x512 v shapeCasts_S1x128x512_S128x512⟩, ⟨S16x512, k0_pay3⟩]
          concatenates_S128x512_S16x512_S144x512_d0)
        (truncf .bf16 (exp2 (subf s (broadcastTo S512x256 (max512 s m) broadcasts_S1x256_S512x256))) bitsLt_bf16_f32)
        (constant S144x256 .f32 0x00000000#32)))
    shapeCasts_S144x256_S1x1x144x256

/-- A strip's step, from its scores: the maximum and the accumulator rewritten. -/
def step256 (E : Env F) (qi c : Fin 2) (w : Fin 8) (j : Fin 8) (s : FVec F S256x256 .f32) (st : St F) : St F :=
  ⟨⟨rA qi c w, acc256 s (E.v13.readCov st.M (rM qi c w).toLoadRect) (E.H j) (E.v11.readCov st.A (rA qi c w).toLoadRect)⟩ :: st.A, st.S,
    ⟨rM qi c w, shapeCast S1x1x1x256 (max256 s (E.v13.readCov st.M (rM qi c w).toLoadRect)) shapeCasts_S1x256_S1x1x1x256⟩ :: st.M⟩
def step512 (E : Env F) (qi c : Fin 2) (w : Fin 8) (j : Fin 8) (s : FVec F S512x256 .f32) (st : St F) : St F :=
  ⟨⟨rA qi c w, acc512 s (E.v13.readCov st.M (rM qi c w).toLoadRect) (E.V j) (E.v11.readCov st.A (rA qi c w).toLoadRect)⟩ :: st.A, st.S,
    ⟨rM qi c w, shapeCast S1x1x1x256 (max512 s (E.v13.readCov st.M (rM qi c w).toLoadRect)) shapeCasts_S1x256_S1x1x1x256⟩ :: st.M⟩

/-- A strip of 512 keys, all of them before the queries. -/
def free (E : Env F) (s qi : Fin 2) (j : Fin 8) (c : Fin 2) (w : Fin 8) (st : St F) : St F :=
  step512 E qi c w j (shapeCast S512x256 (E.v12.readCov st.S (rS512 s c w).toLoadRect) shapeCasts_S1x1x512x256_S512x256) st

/-- A strip of the block of keys `u` of the queries' own. -/
def diag (E : Env F) (s qi : Fin 2) (j : Fin 8) (u : Fin 4) (c : Fin 2) (w : Fin 8) (st : St F) : St F :=
  if w.val < 2 * u.val then st
  else if w.val = 2 * u.val then step256 E qi c w j (mask256 u (E.v12.readCov st.S (rS256 s c w).toLoadRect)) st
  else if w.val = 2 * u.val + 1 then step512 E qi c w j (mask512 u (E.v12.readCov st.S (rS512 s c w).toLoadRect)) st
  else free E s qi j c w st

/-- The sixteen strips, in order. -/
def strips : List (Fin 2 × Fin 8) :=
  [(0, 0), (0, 1), (0, 2), (0, 3), (0, 4), (0, 5), (0, 6), (0, 7), (1, 0), (1, 1), (1, 2), (1, 3), (1, 4), (1, 5), (1, 6), (1, 7)]

/-- One block of keys taken in, before the queries or of their own. -/
def frees (E : Env F) (s qi : Fin 2) (j : Fin 8) (st : St F) : St F := strips.foldl (fun st p => free E s qi j p.1 p.2 st) st
def diags (E : Env F) (s qi : Fin 2) (j : Fin 8) (u : Fin 4) (st : St F) : St F := strips.foldl (fun st p => diag E s qi j u p.1 p.2 st) st

/-- The buffers after the first scores, and after each item. -/
def init (E : Env F) : St F :=
  scores E 0 0 0 0 ⟨[⟨Rect.unit (s := S2x2x144x2048) ![0, 0, 0, 0] S2x2x144x2048.size inb_S2x2x144x2048_S2x2x144x2048_0_0_0_0, k0_pay4⟩], [],
    [⟨Rect.unit (s := S2x2x1x2048) ![0, 0, 0, 0] S2x2x1x2048.size inb_S2x2x1x2048_S2x2x1x2048_0_0_0_0, k0_pay5⟩]⟩
def run0 (E : Env F) : St F := diags E 0 0 0 0 (scores E 1 0 1 1 (init E))
def run1 (E : Env F) : St F := diags E 1 0 1 1 (scores E 0 0 2 2 (run0 E))
def run2 (E : Env F) : St F := diags E 0 0 2 2 (scores E 1 0 3 3 (run1 E))
def run3 (E : Env F) : St F := diags E 1 0 3 3 (scores E 0 1 0 0 (run2 E))
def run4 (E : Env F) : St F := frees E 0 1 0 (scores E 1 1 1 0 (run3 E))
def run5 (E : Env F) : St F := frees E 1 1 1 (scores E 0 1 2 0 (run4 E))
def run6 (E : Env F) : St F := frees E 0 1 2 (scores E 1 1 3 0 (run5 E))
def run7 (E : Env F) : St F := frees E 1 1 3 (scores E 0 1 4 0 (run6 E))
def run8 (E : Env F) : St F := diags E 0 1 4 0 (scores E 1 1 5 1 (run7 E))
def run9 (E : Env F) : St F := diags E 1 1 5 1 (scores E 0 1 6 2 (run8 E))
def run10 (E : Env F) : St F := diags E 0 1 6 2 (scores E 1 1 7 3 (run9 E))
def run11 (E : Env F) : St F := diags E 1 1 7 3 (run10 E)

theorem inbL (qi c : Fin 2) : ∀ a, ![(qi : ℕ), c, 128, 0] a + S1x1x1x2048.size a ≤ S2x2x144x2048.size a := by
  revert qi c; decide +kernel
theorem inbN (qi c : Fin 2) : ∀ a, ![(qi : ℕ), c, 0, 0] a + S1x1x128x2048.size a ≤ S2x2x144x2048.size a := by
  revert qi c; decide +kernel

/-- The output block of queries `qi` from the accumulators. -/
def finish (E : Env F) (lam : FVec F S1x1 .f32) (sw : Vec F S128x1 .f32) (qi : Fin 2) (st : St F) : FVec F S1x2048x128 .bf16 :=
  k0_pay1 (k0_pay994 lam (k0_pay992 (E.v11.readCov st.A (Rect.unit (s := S2x2x144x2048) ![(qi : ℕ), (1 : Fin 2), 128, 0] S1x1x1x2048.size (inbL qi 1)).toLoadRect))
    (k0_pay993 (E.v11.readCov st.A (Rect.unit (s := S2x2x144x2048) ![(qi : ℕ), (0 : Fin 2), 128, 0] S1x1x1x2048.size (inbL qi 0)).toLoadRect)
      (E.v11.readCov st.A (Rect.unit (s := S2x2x144x2048) ![(qi : ℕ), (0 : Fin 2), 0, 0] S1x1x128x2048.size (inbN qi 0)).toLoadRect))
    (E.v11.readCov st.A (Rect.unit (s := S2x2x144x2048) ![(qi : ℕ), (1 : Fin 2), 0, 0] S1x1x128x2048.size (inbN qi 1)).toLoadRect) sw)

theorem inbQ (i : Fin 2) : ∀ a, ![0, 2048 * (i : ℕ), 0] a + S1x2048x128.size a ≤ S1x4096x128.size a := by
  revert i; decide +kernel
theorem inbK (i : Fin 8) : ∀ a, ![0, 512 * (i : ℕ), 0] a + S1x512x128.size a ≤ S1x4096x128.size a := by
  revert i; decide +kernel
theorem inbV (i : Fin 8) : ∀ a, ![0, 0, 512 * (i : ℕ)] a + S1x128x512.size a ≤ S1x128x4096.size a := by
  revert i; decide +kernel
theorem inbH (i : Fin 8) : ∀ a, ![0, 0, 512 * (i : ℕ)] a + S1x128x256.size a ≤ S1x128x4096.size a := by
  revert i; decide +kernel

/-- The blocks as the loads find them. -/
def env (arg6 : Memref sig .tc .vmem S1x4096x128 .bf16) (harg6 : arg6.IsWhole) (arg7 : Memref sig .tc .vmem S1x4096x128 .bf16) (harg7 : arg7.IsWhole)
    (arg8 : Memref sig .tc .vmem S1x128x4096 .bf16) (harg8 : arg8.IsWhole) (arg11 : Memref sig .tc .vmem S2x2x144x2048 .f32)
    (arg12 : Memref sig .tc .vmem S2x2x512x2048 .f32) (arg13 : Memref sig .tc .vmem S2x2x1x2048 .f32)
    (x4 : Vec F S1x4096x128 .bf16) (x5 : Vec F S1x4096x128 .bf16) (x6 : Vec F S1x128x4096 .bf16) : Env F where
  Q i := View.readAt (Elt F) arg6.view (Rect.unit (s := S1x4096x128) ![0, 2048 * (i : ℕ), 0] S1x2048x128.size (inbQ i)).toLoadRect (harg6.unread x4)
  K i := View.readAt (Elt F) arg7.view (Rect.unit (s := S1x4096x128) ![0, 512 * (i : ℕ), 0] S1x512x128.size (inbK i)).toLoadRect (harg7.unread x5)
  V i := View.readAt (Elt F) arg8.view (Rect.unit (s := S1x128x4096) ![0, 0, 512 * (i : ℕ)] S1x128x512.size (inbV i)).toLoadRect (harg8.unread x6)
  H i := View.readAt (Elt F) arg8.view (Rect.unit (s := S1x128x4096) ![0, 0, 512 * (i : ℕ)] S1x128x256.size (inbH i)).toLoadRect (harg8.unread x6)
  v11 := arg11.view
  v12 := arg12.view
  v13 := arg13.view

end Cert.KernelIdeal.Attn

end
-- ==== Proof.Attn.Softmax.lean ====
/- The online softmax over the extended reals. A column of scores is processed block by block with a running maximum
   and running sums that are rescaled to it; whatever the running maximum was, the sums are those of the weights
   `2 ^ score`, scaled by one common factor. -/
module

public import Idealize.ShloMosaic.PureOps
public import Idealize.ShloMosaic.PureOps.Ideal.Laws

@[expose] public section

noncomputable section

namespace Cert.Half

open Idealize.ShloMosaic

/-- The weight of a score: `2 ^ x`, and `0` at `-∞`. -/
def wt (x : EReal) : ℝ := if x = ⊥ then 0 else Real.rpow 2 x.toReal

theorem wt_bot : wt ⊥ = 0 := if_pos rfl

theorem wt_coe (x : ℝ) : wt x = Real.rpow 2 x := by
  rw [wt, if_neg (EReal.coe_ne_bot x), EReal.toReal_coe]

theorem wt_nonneg (x : EReal) : 0 ≤ wt x := by
  unfold wt
  split
  · exact le_refl _
  · exact Real.rpow_nonneg (by norm_num) _

theorem wt_pos {x : EReal} (h : x ≠ ⊥) : 0 < wt x := by
  rw [wt, if_neg h]
  exact Real.rpow_pos_of_pos (by norm_num) _

/-- A score less a real number, exponentiated: the weight times one factor. -/
theorem exp2_sub {x : EReal} (h : x ≠ ⊤) (M : ℝ) : Ideal.exp2 (x - M) = ((Real.rpow 2 (-M) * wt x : ℝ) : EReal) := by
  induction x with
  | bot => rw [EReal.bot_sub, Ideal.exp2_bot, wt_bot, mul_zero, EReal.coe_zero]
  | top => exact absurd rfl h
  | coe x =>
    rw [← EReal.coe_sub, Ideal.exp2_coe, wt_coe, sub_eq_neg_add]
    exact congrArg _ (Real.rpow_add (by norm_num) _ _)

theorem fold_max_ne_top {n : ℕ} (f : Fin n → EReal) (h : ∀ k, f k ≠ ⊤) : (Finset.univ : Finset (Fin n)).fold max ⊥ f ≠ ⊤ := by
  refine ne_of_lt ?_
  rw [Finset.fold_max_lt]
  exact ⟨bot_lt_top, fun k _ => lt_top_iff_ne_top.mpr (h k)⟩

theorem fold_max_ne_bot {n : ℕ} (f : Fin n → EReal) (k : Fin n) (h : f k ≠ ⊥) : (Finset.univ : Finset (Fin n)).fold max ⊥ f ≠ ⊥ := by
  refine ne_of_gt ?_
  rw [Finset.lt_fold_max]
  exact Or.inr ⟨k, Finset.mem_univ k, bot_lt_iff_ne_bot.mpr h⟩

theorem real_of_ne {x : EReal} (h : x ≠ ⊥) (h' : x ≠ ⊤) : ∃ M : ℝ, x = M := ⟨x.toReal, (EReal.coe_toReal h' h).symm⟩

theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- What a column's running maximum `m` and running sums `a` are after `n` keys of scores `s` and values `v`. -/
def Holds {ρ : Type} (n : ℕ) (s : ℕ → EReal) (v : ℕ → ρ → ℝ) (m : EReal) (a : ρ → EReal) : Prop :=
  (n = 0 ∧ m = ⊥ ∧ ∀ r, a r = 0) ∨
    ∃ M : ℝ, m = M ∧ ∀ r, a r = ((Real.rpow 2 (-M) * ∑ K ∈ Finset.range n, wt (s K) * v K r : ℝ) : EReal)

theorem Holds.ne_top {ρ : Type} {n : ℕ} {s : ℕ → EReal} {v : ℕ → ρ → ℝ} {m : EReal} {a : ρ → EReal} (h : Holds n s v m a) : m ≠ ⊤ := by
  rcases h with ⟨-, rfl, -⟩ | ⟨M, rfl, -⟩
  · exact bot_ne_top
  · exact EReal.coe_ne_top M

/-- One block of keys more. -/
theorem Holds.step {ρ : Type} {n cnt : ℕ} {s : ℕ → EReal} {v : ℕ → ρ → ℝ} {m m' : EReal} {a a' : ρ → EReal} (h : Holds n s v m a)
    (hs : ∀ K, s K ≠ ⊤) (h0 : s 0 ≠ ⊥) (hc : 0 < cnt) (blk : Fin cnt → EReal) (hblk : ∀ k : Fin cnt, blk k = s (n + k.val))
    (vb : Fin cnt → ρ → EReal) (hvb : ∀ k r, vb k r = (v (n + k.val) r : EReal))
    (hm : m' = max m ((Finset.univ : Finset (Fin cnt)).fold max ⊥ blk))
    (ha : ∀ r, a' r = Ideal.exp2 (m - m') * a r + ∑ k : Fin cnt, vb k r * Ideal.exp2 (blk k - m')) :
    Holds (n + cnt) s v m' a' := by
  have hb : ∀ k, blk k ≠ ⊤ := fun k => by rw [hblk]; exact hs _
  have htop : m' ≠ ⊤ := by
    rw [hm]
    exact ne_of_lt (max_lt (lt_top_iff_ne_top.mpr h.ne_top) (lt_top_iff_ne_top.mpr (fold_max_ne_top blk hb)))
  have hbot : m' ≠ ⊥ := by
    rw [hm]
    refine ne_of_gt (lt_max_iff.mpr ?_)
    rcases h with ⟨hn, -, -⟩ | ⟨M, rfl, -⟩
    · refine Or.inr (bot_lt_iff_ne_bot.mpr (fold_max_ne_bot blk ⟨0, hc⟩ ?_))
      rw [hblk, hn]
      exact h0
    · exact Or.inl (EReal.bot_lt_coe M)
  obtain ⟨M', hM'⟩ := real_of_ne hbot htop
  refine Or.inr ⟨M', hM', fun r => ?_⟩
  have hsum : ∑ k : Fin cnt, vb k r * Ideal.exp2 (blk k - m')
      = ((Real.rpow 2 (-M') * ∑ k : Fin cnt, wt (s (n + k.val)) * v (n + k.val) r : ℝ) : EReal) := by
    rw [Finset.mul_sum, coe_sum]
    refine Finset.sum_congr rfl fun k _ => ?_
    rw [hM', exp2_sub (hb k), hvb, hblk, ← EReal.coe_mul]
    exact congrArg _ (by ring)
  rw [ha, hsum, Finset.sum_range_add, ← Fin.sum_univ_eq_sum_range (fun k => wt (s (n + k)) * v (n + k) r) cnt]
  rcases h with ⟨hn, -, hz⟩ | ⟨M, hM, hA⟩
  · subst hn
    rw [hz, mul_zero, zero_add, Finset.range_zero, Finset.sum_empty, zero_add]
  · rw [hA, hM', hM, exp2_sub (EReal.coe_ne_top M), wt_coe, ← EReal.coe_mul, ← EReal.coe_add]
    refine congrArg _ ?_
    have hone : Real.rpow 2 M * Real.rpow 2 (-M) = 1 := by
      have h := Real.rpow_add (x := 2) (by norm_num) M (-M)
      rw [add_neg_cancel, Real.rpow_zero] at h
      exact h.symm
    linear_combination (Real.rpow 2 (-M') * ∑ K ∈ Finset.range n, wt (s K) * v K r) * hone

end Cert.Half

end
-- ==== Proof.Attn.Strip.lean ====
/- What one strip computes over the extended reals, entry by entry. -/
module

public import proofs.«01_k».proof.Proof.Attn.Model
public import proofs.«01_k».proof.Proof.Attn.Softmax
public import Idealize.ShloMosaic.Lib.Pipeline.ValueKit

@[expose] public section

set_option maxRecDepth 16384

noncomputable section

namespace Cert.KernelIdeal.Attn

open Idealize.ShloMosaic Idealize.ShloMosaic.TcCoe Idealize.SL.Sem
open Cert.KernelIdeal Cert.KernelIdeal.Gen Cert.Half

theorem sle_words {a b c d : ℕ} (h : a + b < 2 ^ 31) (h' : c + d < 2 ^ 31) :
    IntOp.cmpi .sle (IntOp.addi (BitVec.ofNat 32 a) (BitVec.ofNat 32 b)) (IntOp.addi (BitVec.ofNat 32 c) (BitVec.ofNat 32 d))
      = BitVec.ofBool (decide (a + b ≤ c + d)) := by
  have e : ∀ x y : ℕ, IntOp.addi (BitVec.ofNat 32 x) (BitVec.ofNat 32 y) = BitVec.ofNat 32 (x + y) := fun x y => (BitVec.ofNat_add x y).symm
  rw [e, e]
  exact WordCmp.cmpi_sle_ofNat h h'

/-- The constant the masked scores hold. -/
theorem mask_bot (b : BitVec 32) : Named.named (F := Ideal) κ "mask" (φ := .f32) b = (⊥ : EReal) := rfl

theorem ones_at (i : S16x512.Idx) : k0_pay3 (F := Ideal) i = (1 : EReal) := Ideal.ofBits_one_bf16

theorem max256_at (s : FVec Ideal S256x256 .f32) (m : Vec Ideal S1x1x1x256 .f32) (x : Fin 256) :
    max256 (F := Ideal) s m (ix2 0 x) = max (m (ix4 0 0 0 x)) ((Finset.univ : Finset (Fin 256)).fold max ⊥ fun k => s (ix2 k x)) := by
  pointwise! [max256]

theorem mask256_at (u : Fin 4) (x : Vec Ideal S1x1x256x256 .f32) (k : Fin 256) (y : Fin 256) :
    mask256 (F := Ideal) u x (ix2 k y) = if k.val ≤ 0 + y.val then x (ix4 0 0 k y) else (⊥ : EReal) := by
  pointwise! [mask256]
  rw [sle_words (by omega) (by omega), mask_bot, WordCmp.select_decide]
  exact if_congr (by omega) rfl rfl

theorem acc256_at (s : FVec Ideal S256x256 .f32) (m : Vec Ideal S1x1x1x256 .f32) (v : Vec Ideal S1x128x256 .bf16) (a : Vec Ideal S1x1x144x256 .f32)
    (r : Fin 144) (x : Fin 256) :
    acc256 (F := Ideal) s m v a (ix4 0 0 r x)
      = Ideal.exp2 (m (ix4 0 0 0 x) - max256 (F := Ideal) s m (ix2 0 x)) * a (ix4 0 0 r x)
        + ∑ k : Fin 256, (if h : r.val < 128 then v (ix3 0 ⟨r.val, h⟩ k) else (1 : EReal)) * Ideal.exp2 (s (ix2 k x) - max256 (F := Ideal) s m (ix2 0 x)) := by
  pointwise! [acc256]
  simp only [ones_at]
  rfl

theorem max512_at (s : FVec Ideal S512x256 .f32) (m : Vec Ideal S1x1x1x256 .f32) (x : Fin 256) :
    max512 (F := Ideal) s m (ix2 0 x) = max (m (ix4 0 0 0 x)) ((Finset.univ : Finset (Fin 512)).fold max ⊥ fun k => s (ix2 k x)) := by
  pointwise! [max512]

theorem mask512_at (u : Fin 4) (x : Vec Ideal S1x1x512x256 .f32) (k : Fin 512) (y : Fin 256) :
    mask512 (F := Ideal) u x (ix2 k y) = if k.val ≤ 256 + y.val then x (ix4 0 0 k y) else (⊥ : EReal) := by
  pointwise! [mask512]
  rw [sle_words (by omega) (by omega), mask_bot, WordCmp.select_decide]
  exact if_congr (by omega) rfl rfl

theorem acc512_at (s : FVec Ideal S512x256 .f32) (m : Vec Ideal S1x1x1x256 .f32) (v : Vec Ideal S1x128x512 .bf16) (a : Vec Ideal S1x1x144x256 .f32)
    (r : Fin 144) (x : Fin 256) :
    acc512 (F := Ideal) s m v a (ix4 0 0 r x)
      = Ideal.exp2 (m (ix4 0 0 0 x) - max512 (F := Ideal) s m (ix2 0 x)) * a (ix4 0 0 r x)
        + ∑ k : Fin 512, (if h : r.val < 128 then v (ix3 0 ⟨r.val, h⟩ k) else (1 : EReal)) * Ideal.exp2 (s (ix2 k x) - max512 (F := Ideal) s m (ix2 0 x)) := by
  pointwise! [acc512]
  simp only [ones_at]
  rfl

theorem tile0_at (c : Fin 2) (k : Vec Ideal S1x512x128 .bf16) (q : Vec Ideal S1x2048x128 .bf16) (a : Fin 512) (x : Fin 2048) :
    tile0 (F := Ideal) c k q (ix4 0 0 a x) = ∑ l : Fin 128, k (ix3 0 a l) * half (F := Ideal) c q (ix2 x l) := by
  pointwise! [tile0, k0_pay6]

theorem tile1_at (c : Fin 2) (k : Vec Ideal S1x512x128 .bf16) (q : Vec Ideal S1x2048x128 .bf16) (a : Fin 512) (x : Fin 1536) :
    tile1 (F := Ideal) c k q (ix4 0 0 a x) = ∑ l : Fin 128, k (ix3 0 a l) * half (F := Ideal) c q (ix2 ⟨512 + x.val, by omega⟩ l) := by
  pointwise! [tile1, k0_pay6]

theorem tile2_at (c : Fin 2) (k : Vec Ideal S1x512x128 .bf16) (q : Vec Ideal S1x2048x128 .bf16) (a : Fin 512) (x : Fin 1024) :
    tile2 (F := Ideal) c k q (ix4 0 0 a x) = ∑ l : Fin 128, k (ix3 0 a l) * half (F := Ideal) c q (ix2 ⟨1024 + x.val, by omega⟩ l) := by
  pointwise! [tile2, k0_pay6]

theorem tile3_at (c : Fin 2) (k : Vec Ideal S1x512x128 .bf16) (q : Vec Ideal S1x2048x128 .bf16) (a : Fin 512) (x : Fin 512) :
    tile3 (F := Ideal) c k q (ix4 0 0 a x) = ∑ l : Fin 128, k (ix3 0 a l) * half (F := Ideal) c q (ix2 ⟨1536 + x.val, by omega⟩ l) := by
  pointwise! [tile3, k0_pay6]

theorem half_at (c : Fin 2) (q : Vec Ideal S1x2048x128 .bf16) (x : Fin 2048) (l : Fin 128) :
    half (F := Ideal) c q (ix2 x l) = if l.val / 64 = c.val then q (ix3 0 x l) else (0 : EReal) := by
  match c with
  | 0 =>
    pointwise! [half, k0_pay9, k0_pay8, k0_pay7]
    rw [WordCmp.cmpi_slt_ofNat (by omega) (by omega), WordCmp.select_decide]
    exact if_congr (by omega) rfl rfl
  | 1 =>
    pointwise! [half, k0_pay10, k0_pay8, k0_pay7]
    rw [WordCmp.cmpi_slt_ofNat (by omega) (by omega), WordCmp.select_decide]
    split <;> rename_i h
    · rw [if_neg (by omega)]
    · rw [if_pos (by omega)]

end Cert.KernelIdeal.Attn

end
-- ==== Proof.Attn.State.lean ====
/- The scratch buffers entry by entry, and what one step does to them. -/
module

public import proofs.«01_k».proof.Proof.Attn.Strip

@[expose] public section

set_option maxRecDepth 16384

noncomputable section

namespace Cert.KernelIdeal.Attn

open Idealize.ShloMosaic Idealize.ShloMosaic.TcCoe Idealize.SL.Sem
open Cert.KernelIdeal Cert.KernelIdeal.Gen Cert.Half

section Boxes

variable {A B C D n0 n1 n2 n3 a b c d : ℕ}
  {inb : ∀ i, (![a, b, c, d] : Fin 4 → ℕ) i + (![n0, n1, n2, n3] : Fin 4 → ℕ) i ≤ (⟨4, ![A, B, C, D]⟩ : Shape).size i}

theorem emb4 (z0 : Fin n0) (z1 : Fin n1) (z2 : Fin n2) (z3 : Fin n3) (q0 : Fin A) (q1 : Fin B) (q2 : Fin C) (q3 : Fin D)
    (h0 : (q0 : ℕ) = a + z0) (h1 : (q1 : ℕ) = b + z1) (h2 : (q2 : ℕ) = c + z2) (h3 : (q3 : ℕ) = d + z3) :
    (Rect.unit (s := ⟨4, ![A, B, C, D]⟩) ![a, b, c, d] ![n0, n1, n2, n3] inb).emb (ix4 z0 z1 z2 z3) = ix4 q0 q1 q2 q3 := by
  funext i
  match i with
  | 0 => exact Fin.ext (by simp [h0])
  | 1 => exact Fin.ext (by simp [h1])
  | 2 => exact Fin.ext (by simp [h2])
  | 3 => exact Fin.ext (by simp [h3])

theorem canon_hit {φ : EltTy} {w : Vec Ideal ⟨4, ![n0, n1, n2, n3]⟩ φ} {L : List (View.Piece (Elt Ideal) ⟨4, ![A, B, C, D]⟩ φ)}
    (z0 : Fin n0) (z1 : Fin n1) (z2 : Fin n2) (z3 : Fin n3) (q0 : Fin A) (q1 : Fin B) (q2 : Fin C) (q3 : Fin D)
    (h0 : (q0 : ℕ) = a + z0) (h1 : (q1 : ℕ) = b + z1) (h2 : (q2 : ℕ) = c + z2) (h3 : (q3 : ℕ) = d + z3) :
    View.canon (⟨Rect.unit (s := ⟨4, ![A, B, C, D]⟩) ![a, b, c, d] ![n0, n1, n2, n3] inb, w⟩ :: L) (ix4 q0 q1 q2 q3) = w (ix4 z0 z1 z2 z3) := by
  rw [← emb4 (inb := inb) z0 z1 z2 z3 q0 q1 q2 q3 h0 h1 h2 h3]
  exact View.canon_cons_emb _ _ _ _

theorem canon_miss {φ : EltTy} {w : Vec Ideal ⟨4, ![n0, n1, n2, n3]⟩ φ} {L : List (View.Piece (Elt Ideal) ⟨4, ![A, B, C, D]⟩ φ)}
    (q0 : Fin A) (q1 : Fin B) (q2 : Fin C) (q3 : Fin D)
    (h : ¬((a ≤ q0 ∧ (q0 : ℕ) < a + n0) ∧ (b ≤ q1 ∧ (q1 : ℕ) < b + n1) ∧ (d ≤ q3 ∧ (q3 : ℕ) < d + n3))) :
    View.canon (⟨Rect.unit (s := ⟨4, ![A, B, C, D]⟩) ![a, b, c, d] ![n0, n1, n2, n3] inb, w⟩ :: L) (ix4 q0 q1 q2 q3) = View.canon L (ix4 q0 q1 q2 q3) := by
  refine View.canon_cons_of_not_mem _ _ fun hm => h ?_
  have hm' := (Rect.mem_set_unit (inb := inb)).1 hm
  exact ⟨hm' 0, hm' 1, hm' 3⟩

theorem read4 {sig : RefSig} {φ : EltTy} (v : View sig .tc .vmem ⟨4, ![A, B, C, D]⟩ φ) (L : List (View.Piece (Elt Ideal) ⟨4, ![A, B, C, D]⟩ φ))
    (z0 : Fin n0) (z1 : Fin n1) (z2 : Fin n2) (z3 : Fin n3) (q0 : Fin A) (q1 : Fin B) (q2 : Fin C) (q3 : Fin D)
    (h0 : (q0 : ℕ) = a + z0) (h1 : (q1 : ℕ) = b + z1) (h2 : (q2 : ℕ) = c + z2) (h3 : (q3 : ℕ) = d + z3) :
    v.readCov L (Rect.unit (s := ⟨4, ![A, B, C, D]⟩) ![a, b, c, d] ![n0, n1, n2, n3] inb).toLoadRect (ix4 z0 z1 z2 z3)
      = View.canon L (ix4 q0 q1 q2 q3) := by
  rw [View.readCov_eq_canon', ← emb4 (inb := inb) z0 z1 z2 z3 q0 q1 q2 q3 h0 h1 h2 h3]
  rfl

end Boxes

/-- The accumulators, the maxima and the scores. -/
def cA (st : St Ideal) (qi c : Fin 2) (r : Fin 144) (x : Fin 2048) : EReal := View.canon st.A (ix4 qi c r x)
def cM (st : St Ideal) (qi c : Fin 2) (x : Fin 2048) : EReal := View.canon st.M (ix4 qi c 0 x)
def cS (st : St Ideal) (s c : Fin 2) (k : Fin 512) (x : Fin 2048) : EReal := View.canon st.S (ix4 s c k x)

/-- A column of a strip. -/
def col (w : Fin 8) (x : Fin 256) : Fin 2048 := ⟨256 * w.val + x.val, by omega⟩

/-- The scores of query `Q` in half `c`, those of later keys masked. -/
def msk (sc : Fin 2 → ℕ → ℕ → EReal) (c : Fin 2) (Q K : ℕ) : EReal := if K ≤ Q then sc c Q K else ⊥

/-- The blocks read hold the scores `sc` and the values `v`, and these are real. -/
structure Good (E : Env Ideal) (sc : Fin 2 → ℕ → ℕ → EReal) (v : ℕ → Fin 144 → ℝ) : Prop where
  tile : ∀ (c qi : Fin 2) (j : Fin 8) (a : Fin 512) (x : Fin 2048),
    ∑ l : Fin 128, E.K j (ix3 0 a l) * half (F := Ideal) c (E.Q qi) (ix2 x l) = sc c (2048 * qi.val + x.val) (512 * j.val + a.val)
  V : ∀ (j : Fin 8) (r : Fin 144) (k : Fin 512), (if h : r.val < 128 then E.V j (ix3 0 ⟨r.val, h⟩ k) else (1 : EReal)) = (v (512 * j.val + k.val) r : EReal)
  H : ∀ (j : Fin 8) (r : Fin 144) (k : Fin 256), (if h : r.val < 128 then E.H j (ix3 0 ⟨r.val, h⟩ k) else (1 : EReal)) = (v (512 * j.val + k.val) r : EReal)
  ne_top : ∀ c Q K, sc c Q K ≠ ⊤
  ne_bot : ∀ c Q K, sc c Q K ≠ ⊥

/-- A strip has taken in `n` keys. -/
def Strip (sc : Fin 2 → ℕ → ℕ → EReal) (v : ℕ → Fin 144 → ℝ) (st : St Ideal) (qi c : Fin 2) (w : Fin 8) (n : ℕ) : Prop :=
  ∀ x : Fin 256, Holds n (msk sc c (2048 * qi.val + (col w x).val)) v (cM st qi c (col w x)) (fun r => cA st qi c r (col w x))

/-- The slot `s` holds the scores of queries `qi` from `512 u` on against key block `j`. -/
def Slot (sc : Fin 2 → ℕ → ℕ → EReal) (st : St Ideal) (s qi : Fin 2) (j : Fin 8) (u : Fin 4) : Prop :=
  ∀ (c : Fin 2) (k : Fin 512) (x : Fin 2048), 512 * u.val ≤ x.val → cS st s c k x = sc c (2048 * qi.val + x.val) (512 * j.val + k.val)

variable {E : Env Ideal} {sc : Fin 2 → ℕ → ℕ → EReal} {v : ℕ → Fin 144 → ℝ}

theorem msk_ne_top (hE : Good E sc v) (c : Fin 2) (Q K : ℕ) : msk sc c Q K ≠ ⊤ := by
  unfold msk
  split
  · exact hE.ne_top _ _ _
  · exact bot_ne_top

theorem msk_zero (hE : Good E sc v) (c : Fin 2) (Q : ℕ) : msk sc c Q 0 ≠ ⊥ := by
  rw [msk, if_pos (Nat.zero_le _)]
  exact hE.ne_bot _ _ _

theorem step512_hit (hE : Good E sc v) {qi c : Fin 2} {w j : Fin 8} {s : FVec Ideal S512x256 .f32} {st : St Ideal}
    (hs : ∀ k x, s (ix2 k x) = msk sc c (2048 * qi.val + (col w x).val) (512 * j.val + k.val))
    (h : Strip sc v st qi c w (512 * j.val)) : Strip sc v (step512 E qi c w j s st) qi c w (512 * j.val + 512) := by
  intro x
  have hm : E.v13.readCov st.M (rM qi c w).toLoadRect (ix4 0 0 0 x) = cM st qi c (col w x) :=
    read4 E.v13 st.M 0 0 0 x qi c 0 (col w x) (by simp) (by simp) (by simp) rfl
  have hM : cM (step512 E qi c w j s st) qi c (col w x) = max512 (F := Ideal) s (E.v13.readCov st.M (rM qi c w).toLoadRect) (ix2 0 x) := by
    refine (canon_hit 0 0 0 x qi c 0 (col w x) (by simp) (by simp) (by simp) rfl).trans ?_
    pointwise! []
  refine (h x).step (msk_ne_top hE c _) (msk_zero hE c _) (by norm_num) (fun k => s (ix2 k x)) (fun k => hs k x)
    (fun k r => if h : r.val < 128 then E.V j (ix3 0 ⟨r.val, h⟩ k) else (1 : EReal)) (fun k r => hE.V j r k) ?_ ?_
  · rw [hM, max512_at, hm]
  · intro r
    refine (canon_hit 0 0 r x qi c r (col w x) (by simp) (by simp) (by simp) rfl).trans ?_
    have ha : E.v11.readCov st.A (rA qi c w).toLoadRect (ix4 0 0 r x) = cA st qi c r (col w x) :=
      read4 E.v11 st.A 0 0 r x qi c r (col w x) (by simp) (by simp) (by simp) rfl
    rw [acc512_at, hm, hM, ha]

theorem step256_hit (hE : Good E sc v) {qi c : Fin 2} {w j : Fin 8} {s : FVec Ideal S256x256 .f32} {st : St Ideal}
    (hs : ∀ k x, s (ix2 k x) = msk sc c (2048 * qi.val + (col w x).val) (512 * j.val + k.val))
    (h : Strip sc v st qi c w (512 * j.val)) : Strip sc v (step256 E qi c w j s st) qi c w (512 * j.val + 256) := by
  intro x
  have hm : E.v13.readCov st.M (rM qi c w).toLoadRect (ix4 0 0 0 x) = cM st qi c (col w x) :=
    read4 E.v13 st.M 0 0 0 x qi c 0 (col w x) (by simp) (by simp) (by simp) rfl
  have hM : cM (step256 E qi c w j s st) qi c (col w x) = max256 (F := Ideal) s (E.v13.readCov st.M (rM qi c w).toLoadRect) (ix2 0 x) := by
    refine (canon_hit 0 0 0 x qi c 0 (col w x) (by simp) (by simp) (by simp) rfl).trans ?_
    pointwise! []
  refine (h x).step (msk_ne_top hE c _) (msk_zero hE c _) (by norm_num) (fun k => s (ix2 k x)) (fun k => hs k x)
    (fun k r => if h : r.val < 128 then E.H j (ix3 0 ⟨r.val, h⟩ k) else (1 : EReal)) (fun k r => hE.H j r k) ?_ ?_
  · rw [hM, max256_at, hm]
  · intro r
    refine (canon_hit 0 0 r x qi c r (col w x) (by simp) (by simp) (by simp) rfl).trans ?_
    have ha : E.v11.readCov st.A (rA qi c w).toLoadRect (ix4 0 0 r x) = cA st qi c r (col w x) :=
      read4 E.v11 st.A 0 0 r x qi c r (col w x) (by simp) (by simp) (by simp) rfl
    rw [acc256_at, hm, hM, ha]

/-- Two states agree on a strip. -/
def Same (st st' : St Ideal) (qi c : Fin 2) (w : Fin 8) : Prop :=
  ∀ x : Fin 256, cM st' qi c (col w x) = cM st qi c (col w x) ∧ ∀ r, cA st' qi c r (col w x) = cA st qi c r (col w x)

theorem Same.strip {st st' : St Ideal} {qi c : Fin 2} {w : Fin 8} {n : ℕ} (h : Same st st' qi c w) (hs : Strip sc v st qi c w n) :
    Strip sc v st' qi c w n := by
  intro x
  have h' := hs x
  rw [← (h x).1, ← funext (h x).2] at h'
  exact h'

theorem Same.refl (st : St Ideal) (qi c : Fin 2) (w : Fin 8) : Same st st qi c w := fun _ => ⟨rfl, fun _ => rfl⟩

theorem Same.trans {a b d : St Ideal} {qi c : Fin 2} {w : Fin 8} (h : Same a b qi c w) (h' : Same b d qi c w) : Same a d qi c w :=
  fun x => ⟨(h' x).1.trans (h x).1, fun r => ((h' x).2 r).trans ((h x).2 r)⟩

theorem off_strip {qi c qi' c' : Fin 2} {w w' : Fin 8} (h : ¬(qi' = qi ∧ c' = c ∧ w' = w)) (x : Fin 256) :
    ¬((qi.val ≤ qi'.val ∧ qi'.val < qi.val + 1) ∧ (c.val ≤ c'.val ∧ c'.val < c.val + 1) ∧
      (256 * w.val ≤ (col w' x).val ∧ (col w' x).val < 256 * w.val + 256)) := by
  rintro ⟨h1, h2, h3⟩
  refine h ⟨Fin.ext (by omega), Fin.ext (by omega), Fin.ext ?_⟩
  simp only [col] at h3
  omega

theorem step512_miss {qi c qi' c' : Fin 2} {w w' j : Fin 8} {s : FVec Ideal S512x256 .f32} {st : St Ideal} (h : ¬(qi' = qi ∧ c' = c ∧ w' = w)) :
    Same st (step512 E qi c w j s st) qi' c' w' := fun x =>
  ⟨canon_miss qi' c' 0 (col w' x) (off_strip h x), fun r => canon_miss qi' c' r (col w' x) (off_strip h x)⟩

theorem step256_miss {qi c qi' c' : Fin 2} {w w' j : Fin 8} {s : FVec Ideal S256x256 .f32} {st : St Ideal} (h : ¬(qi' = qi ∧ c' = c ∧ w' = w)) :
    Same st (step256 E qi c w j s st) qi' c' w' := fun x =>
  ⟨canon_miss qi' c' 0 (col w' x) (off_strip h x), fun r => canon_miss qi' c' r (col w' x) (off_strip h x)⟩

theorem read_scores {s qi c : Fin 2} {w j : Fin 8} {u : Fin 4} {st : St Ideal} (h : Slot sc st s qi j u) (hw : 512 * u.val ≤ 256 * w.val)
    (k : Fin 512) (x : Fin 256) :
    E.v12.readCov st.S (rS512 s c w).toLoadRect (ix4 0 0 k x) = sc c (2048 * qi.val + (col w x).val) (512 * j.val + k.val) :=
  (read4 E.v12 st.S 0 0 k x s c k (col w x) (by simp) (by simp) (by simp) rfl).trans
    (h c k (col w x) (by show 512 * u.val ≤ 256 * w.val + x.val; omega))

theorem read_scores_half {s qi c : Fin 2} {w j : Fin 8} {u : Fin 4} {st : St Ideal} (h : Slot sc st s qi j u) (hw : 512 * u.val ≤ 256 * w.val)
    (k : Fin 256) (x : Fin 256) :
    E.v12.readCov st.S (rS256 s c w).toLoadRect (ix4 0 0 k x) = sc c (2048 * qi.val + (col w x).val) (512 * j.val + k.val) :=
  (read4 E.v12 st.S 0 0 k x s c ⟨k.val, by omega⟩ (col w x) (by simp) (by simp) (Nat.zero_add k.val).symm rfl).trans
    (h c ⟨k.val, by omega⟩ (col w x) (by show 512 * u.val ≤ 256 * w.val + x.val; omega))

theorem flat_at (X : Vec Ideal S1x1x512x256 .f32) (k : Fin 512) (x : Fin 256) :
    shapeCast S512x256 X shapeCasts_S1x1x512x256_S512x256 (ix2 k x) = X (ix4 0 0 k x) := by
  pointwise! []

theorem free_hit (hE : Good E sc v) {s qi c : Fin 2} {w j : Fin 8} {u : Fin 4} {st : St Ideal} (hS : Slot sc st s qi j u)
    (hw : 512 * u.val ≤ 256 * w.val) (hj : 512 * j.val + 512 ≤ 2048 * qi.val + 256 * w.val) (h : Strip sc v st qi c w (512 * j.val)) :
    Strip sc v (free E s qi j c w st) qi c w (512 * j.val + 512) := by
  refine step512_hit hE (fun k x => ?_) h
  rw [flat_at, read_scores hS hw, msk, if_pos (by show 512 * j.val + k.val ≤ 2048 * qi.val + (256 * w.val + x.val); omega)]

/-- How many keys a strip has taken in, once it has had `n` keys: none after its own last query's. -/
def cap (qi : Fin 2) (w : Fin 8) (n : ℕ) : ℕ := min n (2048 * qi.val + 256 * w.val + 256)

theorem diag_hit (hE : Good E sc v) {s qi c : Fin 2} {w j : Fin 8} {u : Fin 4} {st : St Ideal} (hS : Slot sc st s qi j u)
    (hj : 512 * j.val = 2048 * qi.val + 512 * u.val) (h : Strip sc v st qi c w (cap qi w (512 * j.val))) :
    Strip sc v (diag E s qi j u c w st) qi c w (cap qi w (512 * j.val + 512)) := by
  unfold diag
  split
  · have e : cap qi w (512 * j.val + 512) = cap qi w (512 * j.val) := by unfold cap; omega
    rw [e]
    exact h
  · have e : cap qi w (512 * j.val) = 512 * j.val := by unfold cap; omega
    rw [e] at h
    split
    · have e : cap qi w (512 * j.val + 512) = 512 * j.val + 256 := by unfold cap; omega
      rw [e]
      refine step256_hit hE (fun k x => ?_) h
      rw [mask256_at, read_scores_half hS (by omega), msk]
      exact if_congr (by show _ ↔ 512 * j.val + k.val ≤ 2048 * qi.val + (256 * w.val + x.val); omega) rfl rfl
    · have e : cap qi w (512 * j.val + 512) = 512 * j.val + 512 := by unfold cap; omega
      rw [e]
      split
      · refine step512_hit hE (fun k x => ?_) h
        rw [mask512_at, read_scores hS (by omega), msk]
        exact if_congr (by show _ ↔ 512 * j.val + k.val ≤ 2048 * qi.val + (256 * w.val + x.val); omega) rfl rfl
      · exact free_hit hE hS (by omega) (by omega) h

theorem free_miss {s qi c qi' c' : Fin 2} {w w' j : Fin 8} {st : St Ideal} (h : ¬(qi' = qi ∧ c' = c ∧ w' = w)) :
    Same st (free E s qi j c w st) qi' c' w' := step512_miss h

theorem diag_miss {s qi c qi' c' : Fin 2} {w w' j : Fin 8} {u : Fin 4} {st : St Ideal} (h : ¬(qi' = qi ∧ c' = c ∧ w' = w)) :
    Same st (diag E s qi j u c w st) qi' c' w' := by
  unfold diag
  split
  · exact Same.refl _ _ _ _
  · split
    · exact step256_miss h
    · split
      · exact step512_miss h
      · exact free_miss h

theorem diag_S {s qi c : Fin 2} {w j : Fin 8} {u : Fin 4} {st : St Ideal} : (diag E s qi j u c w st).S = st.S := by
  unfold diag
  split
  · rfl
  · split
    · rfl
    · split <;> rfl

end Cert.KernelIdeal.Attn

end
-- ==== Proof.Attn.Items.lean ====
/- The items one after another: what the accumulators hold when a block of queries is finished. -/
module

public import proofs.«01_k».proof.Proof.Attn.State

@[expose] public section

set_option maxRecDepth 16384

noncomputable section

namespace Cert.KernelIdeal.Attn

open Idealize.ShloMosaic Idealize.ShloMosaic.TcCoe Idealize.SL.Sem
open Cert.KernelIdeal Cert.KernelIdeal.Gen Cert.Half

variable {E : Env Ideal} {sc : Fin 2 → ℕ → ℕ → EReal} {v : ℕ → Fin 144 → ℝ}

theorem fold_keep {qi : Fin 2} {f : St Ideal → Fin 2 × Fin 8 → St Ideal}
    (hmiss : ∀ st p (qi' c' : Fin 2) (w' : Fin 8), ¬(qi' = qi ∧ c' = p.1 ∧ w' = p.2) → Same st (f st p) qi' c' w')
    (L : List (Fin 2 × Fin 8)) (st : St Ideal) (qi' c' : Fin 2) (w' : Fin 8) (h : ¬(qi' = qi ∧ (c', w') ∈ L)) : Same st (L.foldl f st) qi' c' w' := by
  induction L generalizing st with
  | nil => exact Same.refl _ _ _ _
  | cons p L ih =>
    refine (hmiss st p qi' c' w' fun hp => h ⟨hp.1, ?_⟩).trans (ih _ fun hp => h ⟨hp.1, List.mem_cons_of_mem _ hp.2⟩)
    have e : (c', w') = p := Prod.ext hp.2.1 hp.2.2
    rw [e]
    exact List.mem_cons_self

theorem fold_S {f : St Ideal → Fin 2 × Fin 8 → St Ideal} (hS : ∀ st p, (f st p).S = st.S) (L : List (Fin 2 × Fin 8)) (st : St Ideal) :
    (L.foldl f st).S = st.S := by
  induction L generalizing st with
  | nil => rfl
  | cons p L ih => exact (ih _).trans (hS st p)

theorem fold_all {qi : Fin 2} {f : St Ideal → Fin 2 × Fin 8 → St Ideal} {S : List (View.Piece (Elt Ideal) S2x2x512x2048 .f32)} {n n' : Fin 8 → ℕ}
    (hmiss : ∀ st p (qi' c' : Fin 2) (w' : Fin 8), ¬(qi' = qi ∧ c' = p.1 ∧ w' = p.2) → Same st (f st p) qi' c' w')
    (hS : ∀ st p, (f st p).S = st.S)
    (hhit : ∀ st p, st.S = S → Strip sc v st qi p.1 p.2 (n p.2) → Strip sc v (f st p) qi p.1 p.2 (n' p.2))
    (L : List (Fin 2 × Fin 8)) (hL : L.Nodup) (st : St Ideal) (hs : st.S = S) (h : ∀ p ∈ L, Strip sc v st qi p.1 p.2 (n p.2)) :
    ∀ p ∈ L, Strip sc v (L.foldl f st) qi p.1 p.2 (n' p.2) := by
  induction L generalizing st with
  | nil => exact fun p hp => absurd hp List.not_mem_nil
  | cons p L ih =>
    rw [List.nodup_cons] at hL
    intro q hq
    rcases List.mem_cons.1 hq with rfl | hq
    · exact (fold_keep hmiss L (f st q) qi q.1 q.2 fun hq => hL.1 hq.2).strip (hhit st q hs (h q List.mem_cons_self))
    · refine ih hL.2 (f st p) ((hS st p).trans hs) (fun q hq => ?_) q hq
      refine (hmiss st p qi q.1 q.2 fun e => hL.1 ?_).strip (h q (List.mem_cons_of_mem _ hq))
      have e' : q = p := Prod.ext e.2.1 e.2.2
      rw [← e']
      exact hq

theorem strips_nodup : strips.Nodup := by decide
theorem strips_all (c : Fin 2) (w : Fin 8) : (c, w) ∈ strips := by
  revert c w; decide

/-- All strips of queries `qi` have had `n` keys. -/
def Part (sc : Fin 2 → ℕ → ℕ → EReal) (v : ℕ → Fin 144 → ℝ) (st : St Ideal) (qi : Fin 2) (n : ℕ) : Prop :=
  ∀ c w, Strip sc v st qi c w (cap qi w n)

theorem Slot.of_S {st st' : St Ideal} (e : st'.S = st.S) {s qi : Fin 2} {j : Fin 8} {u : Fin 4} (h : Slot sc st s qi j u) : Slot sc st' s qi j u := by
  intro c k x hx
  have := h c k x hx
  unfold cS at this ⊢
  rw [e]
  exact this

theorem diags_part (hE : Good E sc v) {s qi : Fin 2} {j : Fin 8} {u : Fin 4} {st : St Ideal} (hS : Slot sc st s qi j u)
    (hj : 512 * j.val = 2048 * qi.val + 512 * u.val) (h : Part sc v st qi (512 * j.val)) : Part sc v (diags E s qi j u st) qi (512 * j.val + 512) :=
  fun c w => fold_all (S := st.S) (n := fun w => cap qi w (512 * j.val)) (n' := fun w => cap qi w (512 * j.val + 512))
    (fun st p qi' c' w' h => diag_miss h) (fun st p => diag_S) (fun st' p e h' => diag_hit hE (hS.of_S e) hj h') strips strips_nodup st rfl
    (fun p _ => h p.1 p.2) (c, w) (strips_all c w)

theorem frees_part (hE : Good E sc v) {s qi : Fin 2} {j : Fin 8} {st : St Ideal} (hS : Slot sc st s qi j 0)
    (hj : 512 * j.val + 512 ≤ 2048 * qi.val) (h : Part sc v st qi (512 * j.val)) : Part sc v (frees E s qi j st) qi (512 * j.val + 512) :=
  fun c w => fold_all (S := st.S) (n := fun w => cap qi w (512 * j.val)) (n' := fun w => cap qi w (512 * j.val + 512))
    (fun st p qi' c' w' h => free_miss h) (fun st p => rfl)
    (fun st' p e h' => by
      have e1 : cap qi p.2 (512 * j.val) = 512 * j.val := by unfold cap; omega
      have e2 : cap qi p.2 (512 * j.val + 512) = 512 * j.val + 512 := by unfold cap; omega
      simp only [e1, e2] at h' ⊢
      exact free_hit hE (hS.of_S e) (by simp) (by omega) h') strips strips_nodup st rfl
    (fun p _ => h p.1 p.2) (c, w) (strips_all c w)

theorem diags_other {s qi qi' : Fin 2} {j : Fin 8} {u : Fin 4} {st : St Ideal} {n : ℕ} (hq : qi' ≠ qi) (h : Part sc v st qi' n) :
    Part sc v (diags E s qi j u st) qi' n :=
  fun c w => (fold_keep (fun st p qi' c' w' h => diag_miss h) strips st qi' c w fun h => hq h.1).strip (h c w)

theorem frees_other {s qi qi' : Fin 2} {j : Fin 8} {st : St Ideal} {n : ℕ} (hq : qi' ≠ qi) (h : Part sc v st qi' n) :
    Part sc v (frees E s qi j st) qi' n :=
  fun c w => (fold_keep (fun st p qi' c' w' h => free_miss h) strips st qi' c w fun h => hq h.1).strip (h c w)

theorem diags_S {s qi : Fin 2} {j : Fin 8} {u : Fin 4} {st : St Ideal} : (diags E s qi j u st).S = st.S := fold_S (fun st p => diag_S) strips st
theorem frees_S {s qi : Fin 2} {j : Fin 8} {st : St Ideal} : (frees E s qi j st).S = st.S := fold_S (fun st p => rfl) strips st

theorem piece_hit (hE : Good E sc v) (s c qi : Fin 2) (j : Fin 8) (u : Fin 4) (L : List (View.Piece (Elt Ideal) S2x2x512x2048 .f32)) (k : Fin 512)
    (x : Fin 2048) (hx : 512 * u.val ≤ x.val) :
    View.canon (piece s c u (E.K j) (E.Q qi) :: L) (ix4 s c k x) = sc c (2048 * qi.val + x.val) (512 * j.val + k.val) := by
  match u with
  | 0 =>
    refine (canon_hit 0 0 k x s c k x (by simp) (by simp) (by simp) (by simp)).trans ?_
    rw [tile0_at]
    exact hE.tile c qi j k x
  | 1 =>
    have hx : 512 ≤ x.val := hx
    refine (canon_hit 0 0 k (⟨x.val - 512, by omega⟩ : Fin 1536) s c k x (by simp) (by simp) (by simp) (by simp; omega)).trans ?_
    rw [tile1_at, ← hE.tile c qi j k x]
    have e : (⟨512 + (x.val - 512), by omega⟩ : Fin 2048) = x := Fin.ext (by simp; omega)
    simp only [e]
  | 2 =>
    have hx : 1024 ≤ x.val := hx
    refine (canon_hit 0 0 k (⟨x.val - 1024, by omega⟩ : Fin 1024) s c k x (by simp) (by simp) (by simp) (by simp; omega)).trans ?_
    rw [tile2_at, ← hE.tile c qi j k x]
    have e : (⟨1024 + (x.val - 1024), by omega⟩ : Fin 2048) = x := Fin.ext (by simp; omega)
    simp only [e]
  | 3 =>
    have hx : 1536 ≤ x.val := hx
    refine (canon_hit 0 0 k (⟨x.val - 1536, by omega⟩ : Fin 512) s c k x (by simp) (by simp) (by simp) (by simp; omega)).trans ?_
    rw [tile3_at, ← hE.tile c qi j k x]
    have e : (⟨1536 + (x.val - 1536), by omega⟩ : Fin 2048) = x := Fin.ext (by simp; omega)
    simp only [e]

theorem piece_miss (s c : Fin 2) (u : Fin 4) (k : Vec Ideal S1x512x128 .bf16) (q : Vec Ideal S1x2048x128 .bf16)
    (L : List (View.Piece (Elt Ideal) S2x2x512x2048 .f32)) (s' c' : Fin 2) (a : Fin 512) (x : Fin 2048) (h : ¬(s' = s ∧ c' = c)) :
    View.canon (piece s c u k q :: L) (ix4 s' c' a x) = View.canon L (ix4 s' c' a x) := by
  have h' : ∀ P : Prop, ¬((s.val ≤ s'.val ∧ s'.val < s.val + 1) ∧ (c.val ≤ c'.val ∧ c'.val < c.val + 1) ∧ P) := by
    rintro P ⟨h1, h2, -⟩
    exact h ⟨Fin.ext (by omega), Fin.ext (by omega)⟩
  match u with
  | 0 => exact canon_miss s' c' a x (h' _)
  | 1 => exact canon_miss s' c' a x (h' _)
  | 2 => exact canon_miss s' c' a x (h' _)
  | 3 => exact canon_miss s' c' a x (h' _)

theorem scores_slot (hE : Good E sc v) (s qi : Fin 2) (j : Fin 8) (u : Fin 4) (st : St Ideal) : Slot sc (scores E s qi j u st) s qi j u := by
  intro c k x hx
  match c with
  | 0 => exact (piece_miss _ _ _ _ _ _ _ _ _ _ (by simp)).trans (piece_hit hE s 0 qi j u _ k x hx)
  | 1 => exact piece_hit hE s 1 qi j u _ k x hx

theorem scores_other {s qi : Fin 2} {j : Fin 8} {u : Fin 4} {st : St Ideal} {s' qi' : Fin 2} {j' : Fin 8} {u' : Fin 4} (hs : s' ≠ s)
    (h : Slot sc st s' qi' j' u') : Slot sc (scores E s qi j u st) s' qi' j' u' := fun c k x hx =>
  ((piece_miss _ _ _ _ _ _ _ _ _ _ fun e => hs e.1).trans (piece_miss _ _ _ _ _ _ _ _ _ _ fun e => hs e.1)).trans (h c k x hx)

theorem scores_part {s qi qi' : Fin 2} {j : Fin 8} {u : Fin 4} {st : St Ideal} {n : ℕ} (h : Part sc v st qi' n) : Part sc v (scores E s qi j u st) qi' n :=
  fun c w x => h c w x

/-- What holds between two items. -/
def Inv (sc : Fin 2 → ℕ → ℕ → EReal) (v : ℕ → Fin 144 → ℝ) (st : St Ideal) (n0 n1 : ℕ) (s qi : Fin 2) (j : Fin 8) (u : Fin 4) : Prop :=
  Part sc v st 0 n0 ∧ Part sc v st 1 n1 ∧ Slot sc st s qi j u

theorem init_inv (hE : Good E sc v) : Inv sc v (init E) 0 0 0 0 0 0 := by
  have hp : ∀ qi, Part sc v (init E) qi 0 := by
    intro qi c w x
    refine Or.inl ⟨by unfold cap; omega, ?_, fun r => ?_⟩
    · refine (canon_hit qi c 0 (col w x) qi c 0 (col w x) (by simp) (by simp) (by simp) (by simp)).trans ?_
      exact mask_bot _
    · refine (canon_hit qi c r (col w x) qi c r (col w x) (by simp) (by simp) (by simp) (by simp)).trans ?_
      pointwise! [k0_pay4]
  exact ⟨hp 0, hp 1, scores_slot hE _ _ _ _ _⟩

theorem inv_diag0 (hE : Good E sc v) {st : St Ideal} {s s' qi' : Fin 2} {j j' : Fin 8} {u u' : Fin 4} {n : ℕ} (hs : s' ≠ s) (hj : 512 * j.val = 512 * u.val)
    (h : Inv sc v st (512 * j.val) n s 0 j u) :
    Inv sc v (diags E s 0 j u (scores E s' qi' j' u' st)) (512 * j.val + 512) n s' qi' j' u' :=
  ⟨diags_part hE (scores_other hs.symm h.2.2) (by simpa using hj) (scores_part h.1), diags_other (by decide) (scores_part h.2.1),
    (scores_slot hE _ _ _ _ _).of_S diags_S⟩

theorem inv_diag1 (hE : Good E sc v) {st : St Ideal} {s s' qi' : Fin 2} {j j' : Fin 8} {u u' : Fin 4} {n : ℕ} (hs : s' ≠ s)
    (hj : 512 * j.val = 2048 + 512 * u.val) (h : Inv sc v st n (512 * j.val) s 1 j u) :
    Inv sc v (diags E s 1 j u (scores E s' qi' j' u' st)) n (512 * j.val + 512) s' qi' j' u' :=
  ⟨diags_other (by decide) (scores_part h.1), diags_part hE (scores_other hs.symm h.2.2) (by simpa using hj) (scores_part h.2.1),
    (scores_slot hE _ _ _ _ _).of_S diags_S⟩

theorem inv_free (hE : Good E sc v) {st : St Ideal} {s s' qi' : Fin 2} {j j' : Fin 8} {u' : Fin 4} {n : ℕ} (hs : s' ≠ s)
    (hj : 512 * j.val + 512 ≤ 2048) (h : Inv sc v st n (512 * j.val) s 1 j 0) :
    Inv sc v (frees E s 1 j (scores E s' qi' j' u' st)) n (512 * j.val + 512) s' qi' j' u' :=
  ⟨frees_other (by decide) (scores_part h.1), frees_part hE (scores_other hs.symm h.2.2) (by simpa using hj) (scores_part h.2.1),
    (scores_slot hE _ _ _ _ _).of_S frees_S⟩

theorem inv0 (hE : Good E sc v) : Inv sc v (run0 E) 512 0 1 0 1 1 := inv_diag0 hE (by decide) (by decide) (init_inv hE)
theorem inv1 (hE : Good E sc v) : Inv sc v (run1 E) 1024 0 0 0 2 2 := inv_diag0 hE (by decide) (by decide) (inv0 hE)
theorem inv2 (hE : Good E sc v) : Inv sc v (run2 E) 1536 0 1 0 3 3 := inv_diag0 hE (by decide) (by decide) (inv1 hE)
theorem inv3 (hE : Good E sc v) : Inv sc v (run3 E) 2048 0 0 1 0 0 := inv_diag0 hE (by decide) (by decide) (inv2 hE)
theorem inv4 (hE : Good E sc v) : Inv sc v (run4 E) 2048 512 1 1 1 0 := inv_free hE (by decide) (by decide) (inv3 hE)
theorem inv5 (hE : Good E sc v) : Inv sc v (run5 E) 2048 1024 0 1 2 0 := inv_free hE (by decide) (by decide) (inv4 hE)
theorem inv6 (hE : Good E sc v) : Inv sc v (run6 E) 2048 1536 1 1 3 0 := inv_free hE (by decide) (by decide) (inv5 hE)
theorem inv7 (hE : Good E sc v) : Inv sc v (run7 E) 2048 2048 0 1 4 0 := inv_free hE (by decide) (by decide) (inv6 hE)
theorem inv8 (hE : Good E sc v) : Inv sc v (run8 E) 2048 2560 1 1 5 1 := inv_diag1 hE (by decide) (by decide) (inv7 hE)
theorem inv9 (hE : Good E sc v) : Inv sc v (run9 E) 2048 3072 0 1 6 2 := inv_diag1 hE (by decide) (by decide) (inv8 hE)
theorem inv10 (hE : Good E sc v) : Inv sc v (run10 E) 2048 3584 1 1 7 3 := inv_diag1 hE (by decide) (by decide) (inv9 hE)
theorem part11 (hE : Good E sc v) : Part sc v (run11 E) 1 4096 :=
  diags_part hE (inv10 hE).2.2 (by decide) (inv10 hE).2.1

/-- The accumulators of queries `qi` are the sums over all keys, each column up to one factor. -/
def Done (sc : Fin 2 → ℕ → ℕ → EReal) (v : ℕ → Fin 144 → ℝ) (st : St Ideal) (qi : Fin 2) : Prop :=
  ∀ (c : Fin 2) (x : Fin 2048), ∃ M : ℝ, ∀ r,
    cA st qi c r x = ((Real.rpow 2 (-M) * ∑ K : Fin 4096, wt (msk sc c (2048 * qi.val + x.val) K.val) * v K.val r : ℝ) : EReal)

theorem Part.done {st : St Ideal} {qi : Fin 2} (h : Part sc v st qi (2048 * qi.val + 2048)) : Done sc v st qi := by
  intro c x
  have hx : col ⟨x.val / 256, by omega⟩ ⟨x.val % 256, by omega⟩ = x := Fin.ext (by simp only [col]; omega)
  have hw : cap qi ⟨x.val / 256, by omega⟩ (2048 * qi.val + 2048) = 2048 * qi.val + 256 * (x.val / 256) + 256 := by
    simp only [cap]
    omega
  have h' := h c ⟨x.val / 256, by omega⟩ ⟨x.val % 256, by omega⟩
  rw [hx, hw] at h'
  rcases h' with ⟨h0, -, -⟩ | ⟨M, -, hA⟩
  · omega
  · refine ⟨M, fun r => (hA r).trans ?_⟩
    rw [Fin.sum_univ_eq_sum_range (fun K => wt (msk sc c (2048 * qi.val + x.val) K) * v K r) 4096]
    refine congrArg (fun t : ℝ => ((Real.rpow 2 (-M) * t : ℝ) : EReal)) (Finset.sum_subset (fun K hK => ?_) fun K _ hK => ?_)
    · rw [Finset.mem_range] at hK ⊢
      omega
    · rw [Finset.mem_range] at hK
      rw [msk, if_neg (by omega), wt_bot, zero_mul]

theorem done0 (hE : Good E sc v) : Done sc v (run3 E) 0 := Part.done (inv3 hE).1
theorem done1 (hE : Good E sc v) : Done sc v (run11 E) 1 := Part.done (part11 hE)

end Cert.KernelIdeal.Attn

end
-- ==== Proof.Attn.Rows.lean ====
/- One row of the differential attention over the extended reals: two softmaxes to the base two, their difference
   weighted by `λ`, and the norm of the head; and that running sums known up to one factor give that row. -/
module

public import proofs.«01_k».proof.Proof.Attn.Softmax

@[expose] public section

noncomputable section

namespace Cert.Half

open Idealize.ShloMosaic

theorem ofBits_bot : Ideal.ofBits .f32 0xFF800000#32 = ⊥ := by simp [Ideal.ofBits, Ideal.ieee]
theorem ofBits_top : Ideal.ofBits .f32 0x7F800000#32 = ⊤ := by simp [Ideal.ofBits, Ideal.ieee]
theorem ofBits_two : Ideal.ofBits .f32 0x40000000#32 = 2 := by
  have h : Ideal.ofBits .f32 0x40000000#32 = ((2 : ℝ) : EReal) := by
    simp [Ideal.ofBits, Ideal.ieee]
    rw [← EReal.coe_mul]
    norm_num
  exact h

/-- The weight of the second softmax. -/
def lamOf (a b c d : Fin 64 → EReal) : EReal :=
  Ideal.exp (∑ i, a i * b i) - Ideal.exp (∑ i, c i * d i) + Ideal.ofBits .f32 0x3E4CCCCD#32

/-- A head's row scaled to unit root mean square, times a gain and the constant. -/
def subln (o w : Fin 128 → EReal) (e : Fin 128) : EReal :=
  o e * Ideal.rsqrt (Ideal.div (∑ k, o k * o k) (Ideal.ofBits .f32 0x43000000#32) + Ideal.ofBits .f32 0x3727C5AC#32) * w e * Ideal.ofBits .f32 0x3F4CCCCD#32

/-- One softmax, to the base two. -/
def soft (s : Fin 4096 → EReal) (K : Fin 4096) : EReal :=
  Ideal.div (Ideal.pow 2 (s K - (Finset.univ : Finset (Fin 4096)).fold max ⊥ s)) (∑ K', Ideal.pow 2 (s K' - (Finset.univ : Finset (Fin 4096)).fold max ⊥ s))

/-- The difference of the two softmaxes applied to the values. -/
def attnRow (lam : EReal) (s0 s1 : Fin 4096 → EReal) (v : Fin 4096 → Fin 128 → EReal) (e : Fin 128) : EReal :=
  ∑ K, v K e * (soft s0 K - lam * soft s1 K)

theorem pow_two (y : EReal) : Ideal.pow 2 y = Ideal.exp2 y := by
  have h2 : (2 : EReal) = ((2 : ℝ) : EReal) := rfl
  rw [h2]
  induction y with
  | bot => rw [Ideal.pow_coe_bot, if_neg (by norm_num), if_pos (by norm_num), Ideal.exp2_bot]
  | top =>
    rw [Ideal.pow_coe_top, if_neg (by norm_num), if_pos (by norm_num)]
    rfl
  | coe y => rfl

theorem div_real (x y : ℝ) (h : y ≠ 0) : Ideal.div (x : EReal) (y : EReal) = ((x / y : ℝ) : EReal) := by
  rw [Ideal.div_coe h, ← EReal.coe_mul, mul_one_div]

theorem two_pos (M : ℝ) : 0 < Real.rpow 2 (-M) := Real.rpow_pos_of_pos (by norm_num) _

theorem weights_pos {s : Fin 4096 → EReal} (h : ∃ K, s K ≠ ⊥) : 0 < ∑ K, wt (s K) := by
  obtain ⟨K, hK⟩ := h
  exact Finset.sum_pos' (fun K _ => wt_nonneg _) ⟨K, Finset.mem_univ K, wt_pos hK⟩

/-- A softmax in terms of the weights. -/
theorem soft_eq {s : Fin 4096 → EReal} (ht : ∀ K, s K ≠ ⊤) (hb : ∃ K, s K ≠ ⊥) (K : Fin 4096) : soft s K = ((wt (s K) / ∑ K', wt (s K') : ℝ) : EReal) := by
  obtain ⟨K0, hK0⟩ := hb
  obtain ⟨M, hM⟩ := real_of_ne (fold_max_ne_bot s K0 hK0) (fold_max_ne_top s ht)
  have hw := weights_pos ⟨K0, hK0⟩
  unfold soft
  rw [hM]
  simp only [pow_two, exp2_sub (ht _)]
  rw [← coe_sum, ← Finset.mul_sum, div_real _ _ (mul_pos (two_pos M) hw).ne', mul_div_mul_left _ _ (two_pos M).ne']

/-- The row from the running sums: values' sums `a`, weights' sums `l`, each softmax's known up to a factor. -/
theorem attnRow_eq {s0 s1 : Fin 4096 → EReal} (ht0 : ∀ K, s0 K ≠ ⊤) (hb0 : ∃ K, s0 K ≠ ⊥) (ht1 : ∀ K, s1 K ≠ ⊤) (hb1 : ∃ K, s1 K ≠ ⊥)
    (L : ℝ) (v : Fin 4096 → Fin 128 → ℝ) (M0 M1 : ℝ) (e : Fin 128) :
    ((Real.rpow 2 (-M0) * ∑ K, wt (s0 K) * v K e : ℝ) : EReal) * Ideal.div 1 ((Real.rpow 2 (-M0) * ∑ K, wt (s0 K) * 1 : ℝ) : EReal)
      - (L : EReal) * (((Real.rpow 2 (-M1) * ∑ K, wt (s1 K) * v K e : ℝ) : EReal) * Ideal.div 1 ((Real.rpow 2 (-M1) * ∑ K, wt (s1 K) * 1 : ℝ) : EReal))
      = attnRow L s0 s1 (fun K e => (v K e : EReal)) e := by
  have hw0 := weights_pos hb0
  have hw1 := weights_pos hb1
  have h1 : (1 : EReal) = ((1 : ℝ) : EReal) := rfl
  unfold attnRow
  simp only [soft_eq ht0 hb0, soft_eq ht1 hb1, mul_one, h1]
  rw [div_real _ _ (mul_pos (two_pos M0) hw0).ne', div_real _ _ (mul_pos (two_pos M1) hw1).ne']
  simp only [← EReal.coe_mul, ← EReal.coe_sub]
  rw [← coe_sum]
  refine congrArg _ ?_
  have e0 : ∀ (M W S : ℝ), W ≠ 0 → Real.rpow 2 (-M) * S * (1 / (Real.rpow 2 (-M) * W)) = S / W := by
    intro M W S hW
    have := (two_pos M).ne'
    field_simp
  rw [e0 _ _ _ hw0.ne', e0 _ _ _ hw1.ne', Finset.sum_div, Finset.sum_div, Finset.mul_sum, ← Finset.sum_sub_distrib]
  refine Finset.sum_congr rfl fun K _ => ?_
  ring

end Cert.Half

end
-- ==== Proof.Attn.Finish.lean ====
/- The output rows from the accumulators. -/
module

public import proofs.«01_k».proof.Proof.Attn.Items
public import proofs.«01_k».proof.Proof.Attn.Rows

@[expose] public section

set_option maxRecDepth 16384

noncomputable section

namespace Cert.KernelIdeal.Attn

open Idealize.ShloMosaic Idealize.ShloMosaic.TcCoe Idealize.SL.Sem
open Cert.KernelIdeal Cert.KernelIdeal.Gen Cert.Half

theorem close_at (lam : FVec Ideal S1x1 .f32) (l0 l1 : Vec Ideal S1x1x1x2048 .f32) (a0 a1 : Vec Ideal S1x1x128x2048 .f32) (sw : Vec Ideal S128x1 .f32)
    (x : Fin 2048) (e : Fin 128) :
    k0_pay1 (F := Ideal) (k0_pay994 (F := Ideal) lam (k0_pay992 (F := Ideal) l1) (k0_pay993 (F := Ideal) l0 a0) a1 sw) (ix3 0 x e)
      = subln (fun e => a0 (ix4 0 0 e x) * Ideal.div 1 (l0 (ix4 0 0 0 x)) - lam (ix2 0 0) * (a1 (ix4 0 0 e x) * Ideal.div 1 (l1 (ix4 0 0 0 x))))
          (fun e => sw (ix2 e 0)) e := by
  pointwise! [k0_pay1, k0_pay994, k0_pay992, k0_pay993, subln]

theorem lam_at (a b c d : Vec Ideal S1x64 .f32) :
    k0_pay2 (F := Ideal) a b c d (ix2 0 0) = lamOf (fun i => a (ix2 0 i)) (fun i => b (ix2 0 i)) (fun i => c (ix2 0 i)) (fun i => d (ix2 0 i)) := by
  pointwise! [k0_pay2, lamOf]

end Cert.KernelIdeal.Attn

end
-- ==== Proof.Attn.Lanes.lean ====
/- The scores of one half of a head, summed over all the lanes with the others' queries zero. -/
module

public import proofs.«01_k».proof.Proof.Attn.Rows

@[expose] public section

noncomputable section

namespace Cert.Half

open Idealize.ShloMosaic

/-- The lane `e` of half `c`. -/
def lane64 (c : Fin 2) (e : Fin 64) : Fin 128 := ⟨c.val * 64 + e.val, by omega⟩

theorem half_sum (k q : Fin 128 → EReal) (c : Fin 2) :
    ∑ l : Fin 128, k l * (if l.val / 64 = c.val then q l else 0) = ∑ e : Fin 64, q (lane64 c e) * k (lane64 c e) := by
  have h := Fin.sum_univ_add (a := 64) (b := 64) (fun l : Fin (64 + 64) => k l * (if l.val / 64 = c.val then q l else 0))
  refine h.trans ?_
  have e0 : ∀ e : Fin 64, (Fin.castAdd 64 e).val / 64 = 0 := fun e => by simp only [Fin.val_castAdd]; omega
  have e1 : ∀ e : Fin 64, (Fin.natAdd 64 e).val / 64 = 1 := fun e => by simp only [Fin.val_natAdd]; omega
  match c with
  | 0 =>
    simp only [e0, e1]
    simp only [Fin.val_zero, if_true, one_ne_zero, if_false, mul_zero, Finset.sum_const_zero, add_zero]
    refine Finset.sum_congr rfl fun e _ => ?_
    have hl : Fin.castAdd 64 e = lane64 0 e := Fin.ext (by simp [lane64])
    rw [hl, mul_comm]
  | 1 =>
    simp only [e0, e1]
    simp only [Fin.val_one, if_true, zero_ne_one, if_false, mul_zero, Finset.sum_const_zero, zero_add]
    refine Finset.sum_congr rfl fun e _ => ?_
    have hl : Fin.natAdd 64 e = lane64 1 e := Fin.ext (by simp only [lane64, Fin.val_natAdd, Fin.val_one])
    rw [hl, mul_comm]

/-- A number that is neither infinity. -/
def Real' (x : EReal) : Prop := x ≠ ⊤ ∧ x ≠ ⊥

theorem Real'.coe (r : ℝ) : Real' r := ⟨EReal.coe_ne_top r, EReal.coe_ne_bot r⟩
theorem Real'.zero : Real' 0 := Real'.coe 0
theorem Real'.out {x : EReal} (h : Real' x) : ∃ r : ℝ, x = r := real_of_ne h.2 h.1

theorem Real'.mul {x y : EReal} (hx : Real' x) (hy : Real' y) : Real' (x * y) := by
  obtain ⟨a, rfl⟩ := hx.out
  obtain ⟨b, rfl⟩ := hy.out
  rw [← EReal.coe_mul]
  exact Real'.coe _

theorem Real'.add {x y : EReal} (hx : Real' x) (hy : Real' y) : Real' (x + y) := by
  obtain ⟨a, rfl⟩ := hx.out
  obtain ⟨b, rfl⟩ := hy.out
  rw [← EReal.coe_add]
  exact Real'.coe _

theorem Real'.sub {x y : EReal} (hx : Real' x) (hy : Real' y) : Real' (x - y) := by
  obtain ⟨a, rfl⟩ := hx.out
  obtain ⟨b, rfl⟩ := hy.out
  rw [← EReal.coe_sub]
  exact Real'.coe _

theorem Real'.exp {x : EReal} (hx : Real' x) : Real' (Ideal.exp x) := by
  obtain ⟨a, rfl⟩ := hx.out
  exact Real'.coe _

theorem Real'.sum {n : ℕ} {f : Fin n → EReal} (h : ∀ k, Real' (f k)) : Real' (∑ k, f k) := by
  choose g hg using fun k => (h k).out
  simp only [hg]
  rw [← coe_sum]
  exact Real'.coe _

theorem Real'.half {x : EReal} {p : Prop} [Decidable p] (hx : Real' x) : Real' (if p then x else 0) := by
  split
  · exact hx
  · exact Real'.zero

/-- The second softmax's weight is a number where its arguments are. -/
theorem lamOf_real {a b c d : Fin 64 → EReal} (ha : ∀ i, Real' (a i)) (hb : ∀ i, Real' (b i)) (hc : ∀ i, Real' (c i)) (hd : ∀ i, Real' (d i)) :
    Real' (lamOf a b c d) := by
  unfold lamOf
  refine (((Real'.sum fun i => (ha i).mul (hb i)).exp).sub ((Real'.sum fun i => (hc i).mul (hd i)).exp)).add ?_
  have h : Ideal.ofBits .f32 0x3E4CCCCD#32 = (((1 : ℤ) * (13421773 : ℝ) / 67108864 : ℝ) : EReal) := by
    simp [Ideal.ofBits, Ideal.ieee]
    rw [← EReal.coe_mul]
    norm_num
  rw [h]
  exact Real'.coe _

/-- A number whose size is below infinity. -/
theorem real_of_abs {x : EReal} (h : max x (-x) < ⊤) : Real' x := by
  obtain ⟨h1, h2⟩ := max_lt_iff.1 h
  refine ⟨h1.ne, fun hb => ?_⟩
  rw [hb, EReal.neg_bot] at h2
  exact lt_irrefl _ h2

end Cert.Half

end
-- ==== Proof.Attn.Run.lean ====
/- The run's output is the stepwise account's. -/
module

public import proofs.«01_k».proof.Proof.Attn.Model

@[expose] public section

set_option maxRecDepth 100000

noncomputable section

namespace Cert.KernelIdeal.Attn

open Idealize.ShloMosaic Idealize.ShloMosaic.TcCoe Idealize.SL.Sem Idealize.ShloMosaic.Tactic
open Cert.KernelIdeal Cert.KernelIdeal.Gen

variable {F : FTy → Type} [FloatOps F] [Named F]

set_option maxHeartbeats 4000000 in
theorem run_pieces (c : Dev nD) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S1x128x4096 .bf16) (harg8 : arg8.IsWhole) (arg9 : Memref sig .tc .vmem S128x1 .f32) (harg9 : arg9.IsWhole) (arg10 : Memref sig .tc .vmem S1x4096x128 .bf16) (harg10 : arg10.IsWhole) (arg11 : Memref sig .tc .vmem S2x2x144x2048 .f32) (harg11 : arg11.IsWhole) (arg12 : Memref sig .tc .vmem S2x2x512x2048 .f32) (harg12 : arg12.IsWhole) (arg13 : Memref sig .tc .vmem S2x2x1x2048 .f32) (harg13 : arg13.IsWhole)
    (x0 : Vec F S1x64 .f32) (x1 : Vec F S1x64 .f32) (x2 : Vec F S1x64 .f32) (x3 : Vec F S1x64 .f32) (x4 : Vec F S1x4096x128 .bf16) (x5 : Vec F S1x4096x128 .bf16) (x6 : Vec F S1x128x4096 .bf16) (x7 : Vec F S128x1 .f32) :
    (kernelRun0_A (F := F) c i arg2 harg2 arg3 harg3 arg4 harg4 arg5 harg5 arg6 harg6 arg7 harg7 arg8 harg8 arg9 harg9 arg10 harg10 arg11 harg11 arg12 harg12 arg13 harg13 x0 x1 x2 x3 x4 x5 x6 x7).1
      = (let E := env arg6 harg6 arg7 harg7 arg8 harg8 arg11 arg12 arg13 x4 x5 x6
         let lam := k0_pay2 (View.readAt (Elt F) arg2.view (Rect.unit ![0, 0] S1x64.size inb_S1x64_S1x64_0_0).toLoadRect (harg2.unread x0))
           (View.readAt (Elt F) arg3.view (Rect.unit ![0, 0] S1x64.size inb_S1x64_S1x64_0_0).toLoadRect (harg3.unread x1))
           (View.readAt (Elt F) arg4.view (Rect.unit ![0, 0] S1x64.size inb_S1x64_S1x64_0_0).toLoadRect (harg4.unread x2))
           (View.readAt (Elt F) arg5.view (Rect.unit ![0, 0] S1x64.size inb_S1x64_S1x64_0_0).toLoadRect (harg5.unread x3))
         let sw := View.readAt (Elt F) arg9.view (Rect.unit ![0, 0] S128x1.size inb_S128x1_S128x1_0_0).toLoadRect (harg9.unread x7)
         [⟨Rect.unit ![0, 2048, 0] S1x2048x128.size inb_S1x4096x128_S1x2048x128_0_2048_0, finish E lam sw 1 (run11 E)⟩,
          ⟨Rect.unit ![0, 0, 0] S1x2048x128.size inb_S1x4096x128_S1x2048x128_0_0_0, finish E lam sw 0 (run3 E)⟩]) := by
  sl_kernel_rfl

end Cert.KernelIdeal.Attn

end
-- ==== Proof.Attn.Block.lean ====
/- What one grid point of the attention leaves in its output block. -/
module

public import proofs.«01_k».proof.Proof.Attn.Finish
public import proofs.«01_k».proof.Proof.Attn.Lanes
public import proofs.«01_k».proof.Proof.Attn.Run
public import Idealize.ShloMosaic.Lib.WritesUnit

@[expose] public section

set_option maxRecDepth 16384

noncomputable section

namespace Cert.KernelIdeal.Attn

open Idealize.ShloMosaic Idealize.ShloMosaic.TcCoe Idealize.SL.Sem
open Cert.KernelIdeal Cert.KernelIdeal.Gen Cert.Half

/-- A row's number as an index. -/
def nat (n : ℕ) : Fin 4096 := ⟨n % 4096, Nat.mod_lt _ (by norm_num)⟩

theorem nat_val (K : Fin 4096) : nat K.val = K := Fin.ext (Nat.mod_eq_of_lt K.isLt)
theorem nat_of {n : ℕ} (h : n < 4096) : nat n = ⟨n, h⟩ := Fin.ext (Nat.mod_eq_of_lt h)

/-- The scores of a block. -/
def blockScore (x4 x5 : Vec Ideal S1x4096x128 .bf16) (c : Fin 2) (Q K : ℕ) : EReal :=
  ∑ l : Fin 128, x5 (ix3 0 (nat K) l) * (if l.val / 64 = c.val then x4 (ix3 0 (nat Q) l) else 0)

/-- The values of a block, and ones beside them. -/
def blockValue (x6 : Vec Ideal S1x128x4096 .bf16) (K : ℕ) (r : Fin 144) : ℝ :=
  if h : r.val < 128 then (show EReal from x6 (ix3 0 ⟨r.val, h⟩ (nat K))).toReal else 1

theorem readRows {A B n0 n1 a b : ℕ} {φ : EltTy} {ar : Memref sig .tc .vmem ⟨3, ![1, A, B]⟩ φ} (h : ar.IsWhole) (X : Vec Ideal ⟨3, ![1, A, B]⟩ φ)
    {inb : ∀ i, (![0, a, b] : Fin 3 → ℕ) i + (![1, n0, n1] : Fin 3 → ℕ) i ≤ (⟨3, ![1, A, B]⟩ : Shape).size i}
    (z0 : Fin n0) (z1 : Fin n1) (q0 : Fin A) (q1 : Fin B) (h0 : (q0 : ℕ) = a + z0) (h1 : (q1 : ℕ) = b + z1) :
    View.readAt (Elt Ideal) ar.view (Rect.unit (s := ⟨3, ![1, A, B]⟩) ![0, a, b] ![1, n0, n1] inb).toLoadRect (h.unread X) (ix3 0 z0 z1) = X (ix3 0 q0 q1) := by
  rw [View.readAt_eq_ld, h.read_unread]
  refine congrArg X (funext fun i => ?_)
  match i with
  | 0 => exact Fin.ext (by simp)
  | 1 => exact Fin.ext (by simp [h0])
  | 2 => exact Fin.ext (by simp [h1])

theorem readFlat {A B : ℕ} {φ : EltTy} {ar : Memref sig .tc .vmem ⟨2, ![A, B]⟩ φ} (h : ar.IsWhole) (X : Vec Ideal ⟨2, ![A, B]⟩ φ)
    {inb : ∀ i, (![0, 0] : Fin 2 → ℕ) i + (![A, B] : Fin 2 → ℕ) i ≤ (⟨2, ![A, B]⟩ : Shape).size i} (z0 : Fin A) (z1 : Fin B) :
    View.readAt (Elt Ideal) ar.view (Rect.unit (s := ⟨2, ![A, B]⟩) ![0, 0] ![A, B] inb).toLoadRect (h.unread X) (ix2 z0 z1) = X (ix2 z0 z1) := by
  rw [View.readAt_eq_ld, h.read_unread]
  refine congrArg X (funext fun i => ?_)
  match i with
  | 0 => exact Fin.ext (by simp)
  | 1 => exact Fin.ext (by simp)

section Blocks

variable {arg6 : Memref sig .tc .vmem S1x4096x128 .bf16} {harg6 : arg6.IsWhole} {arg7 : Memref sig .tc .vmem S1x4096x128 .bf16} {harg7 : arg7.IsWhole}
  {arg8 : Memref sig .tc .vmem S1x128x4096 .bf16} {harg8 : arg8.IsWhole} {arg11 : Memref sig .tc .vmem S2x2x144x2048 .f32}
  {arg12 : Memref sig .tc .vmem S2x2x512x2048 .f32} {arg13 : Memref sig .tc .vmem S2x2x1x2048 .f32}
  {x4 x5 : Vec Ideal S1x4096x128 .bf16} {x6 : Vec Ideal S1x128x4096 .bf16}

theorem value_of (h6 : ∀ i, Real' (x6 i)) (K : ℕ) (r : Fin 144) (f : (h : r.val < 128) → EReal) (hf : ∀ h, f h = x6 (ix3 0 ⟨r.val, h⟩ (nat K))) :
    (if h : r.val < 128 then f h else (1 : EReal)) = (blockValue x6 K r : EReal) := by
  unfold blockValue
  by_cases h : r.val < 128
  · rw [dif_pos h, dif_pos h, hf h]
    exact (EReal.coe_toReal (h6 _).1 (h6 _).2).symm
  · rw [dif_neg h, dif_neg h, EReal.coe_one]

/-- What the loads find is the block's scores and values. -/
theorem good (h4 : ∀ i, Real' (x4 i)) (h5 : ∀ i, Real' (x5 i)) (h6 : ∀ i, Real' (x6 i)) :
    Good (env (F := Ideal) arg6 harg6 arg7 harg7 arg8 harg8 arg11 arg12 arg13 x4 x5 x6) (blockScore x4 x5) (blockValue x6) := by
  have hr : ∀ c Q K, Real' (blockScore x4 x5 c Q K) := fun c Q K => Real'.sum fun l => (h5 _).mul (h4 _).half
  refine ⟨fun c qi j a x => ?_, fun j r k => ?_, fun j r k => ?_, fun c Q K => (hr c Q K).1, fun c Q K => (hr c Q K).2⟩
  · unfold blockScore
    refine Finset.sum_congr rfl fun l _ => ?_
    rw [half_at]
    refine congrArg₂ _ ?_ ?_
    · exact readRows harg7 x5 a l _ l (by rw [nat_of (by omega)]) (by simp)
    · split
      · exact readRows harg6 x4 x l _ l (by rw [nat_of (by omega)]) (by simp)
      · rfl
  · refine value_of h6 _ r _ fun h => ?_
    exact readRows harg8 x6 ⟨r.val, h⟩ k _ _ (by simp) (by rw [nat_of (by omega)])
  · refine value_of h6 _ r _ fun h => ?_
    exact readRows harg8 x6 ⟨r.val, h⟩ k _ _ (by simp) (by rw [nat_of (by omega)])

end Blocks

/-- The output rows from finished accumulators. -/
theorem finish_at {E : Env Ideal} {sc : Fin 2 → ℕ → ℕ → EReal} {v : ℕ → Fin 144 → ℝ} (hE : Good E sc v) (hv : ∀ K, v K ⟨128, by omega⟩ = 1)
    {st : St Ideal} {qi : Fin 2} (hd : Done sc v st qi) (lam : FVec Ideal S1x1 .f32) (hl : Real' (lam (ix2 0 0))) (sw : Vec Ideal S128x1 .f32)
    (x : Fin 2048) (e : Fin 128) :
    finish (F := Ideal) E lam sw qi st (ix3 0 x e)
      = subln (attnRow (lam (ix2 0 0)) (fun K => msk sc 0 (2048 * qi.val + x.val) K.val) (fun K => msk sc 1 (2048 * qi.val + x.val) K.val)
          (fun K e => (v K.val ⟨e.val, by omega⟩ : EReal))) (fun e => sw (ix2 e 0)) e := by
  unfold finish
  refine (close_at _ _ _ _ _ _ _ _).trans ?_
  refine congrArg (fun o => subln o _ e) (funext fun e' => ?_)
  have r0 : ∀ c : Fin 2, E.v11.readCov st.A (Rect.unit (s := S2x2x144x2048) ![(qi : ℕ), c, 128, 0] S1x1x1x2048.size (inbL qi c)).toLoadRect (ix4 0 0 0 x)
      = cA st qi c ⟨128, by omega⟩ x := fun c => read4 _ _ _ _ _ _ _ _ _ _ (by simp) (by simp) (by simp) (by simp)
  have r1 : ∀ c : Fin 2, E.v11.readCov st.A (Rect.unit (s := S2x2x144x2048) ![(qi : ℕ), c, 0, 0] S1x1x128x2048.size (inbN qi c)).toLoadRect (ix4 0 0 e' x)
      = cA st qi c ⟨e'.val, by omega⟩ x := fun c => read4 _ _ _ _ _ _ _ _ _ _ (by simp) (by simp) (by simp) (by simp)
  rw [r0 0, r0 1, r1 0, r1 1]
  obtain ⟨M0, hM0⟩ := hd 0 x
  obtain ⟨M1, hM1⟩ := hd 1 x
  obtain ⟨L, hL⟩ := hl.out
  rw [hM0, hM0, hM1, hM1, hL]
  simp only [hv]
  have ht : ∀ c (K : Fin 4096), msk sc c (2048 * qi.val + x.val) K.val ≠ ⊤ := fun c K => by
    unfold msk
    split
    · exact hE.ne_top _ _ _
    · exact bot_ne_top
  have hb : ∀ c, ∃ K : Fin 4096, msk sc c (2048 * qi.val + x.val) K.val ≠ ⊥ := fun c => ⟨0, by
    unfold msk
    rw [if_pos (by simp)]
    exact hE.ne_bot _ _ _⟩
  exact attnRow_eq (ht 0) (hb 0) (ht 1) (hb 1) L (fun K e => v K.val ⟨e.val, by omega⟩) M0 M1 e'

/-- Reading back an output written in two halves. -/
theorem halves {φ : EltTy} (V : View sig .tc .vmem S1x4096x128 φ) (f : V.ty.Contents (Elt Ideal)) (w0 w1 : Vec Ideal S1x2048x128 φ) (Q : Fin 4096) (e : Fin 128)
    {inb1 : ∀ i, (![0, 2048, 0] : Fin 3 → ℕ) i + S1x2048x128.size i ≤ S1x4096x128.size i} {inb0 : ∀ i, (![0, 0, 0] : Fin 3 → ℕ) i + S1x2048x128.size i ≤ S1x4096x128.size i} :
    V.read (Elt Ideal) (V.writes (Elt Ideal) f [⟨Rect.unit (s := S1x4096x128) ![0, 2048, 0] S1x2048x128.size inb1, w1⟩, ⟨Rect.unit (s := S1x4096x128) ![0, 0, 0] S1x2048x128.size inb0, w0⟩]) (ix3 0 Q e)
      = if h : Q.val < 2048 then w0 (ix3 0 ⟨Q.val, h⟩ e) else w1 (ix3 0 ⟨Q.val - 2048, by omega⟩ e) := by
  by_cases h : Q.val < 2048
  · rw [dif_pos h]
    refine (View.read_writes_cons_unit_of_not_mem _ _ _ _ _ _ rfl 1 (Or.inl h)).trans ?_
    refine View.read_writes_cons_unit_of_mem V _ inb0 w0 _ _ (ix3 (0 : Fin 1) (⟨Q.val, h⟩ : Fin 2048) e) rfl fun a => ?_
    match a with
    | 0 => rfl
    | 1 => exact (Nat.zero_add _).symm
    | 2 => exact (Nat.zero_add _).symm
  · rw [dif_neg h]
    refine View.read_writes_cons_unit_of_mem V _ inb1 w1 _ _ (ix3 (0 : Fin 1) (⟨Q.val - 2048, by omega⟩ : Fin 2048) e) rfl fun a => ?_
    match a with
    | 0 => rfl
    | 1 => show Q.val = 2048 + (Q.val - 2048); omega
    | 2 => exact (Nat.zero_add _).symm

/-- The masked scores of a query in half `c` of the block. -/
def line (x4 x5 : Vec Ideal S1x4096x128 .bf16) (c : Fin 2) (Q K : Fin 4096) : EReal :=
  if K.val ≤ Q.val then ∑ e : Fin 64, x4 (ix3 0 Q (lane64 c e)) * x5 (ix3 0 K (lane64 c e)) else ⊥

theorem line_eq (x4 x5 : Vec Ideal S1x4096x128 .bf16) (c : Fin 2) (Q K : Fin 4096) : msk (blockScore x4 x5) c Q.val K.val = line x4 x5 c Q K := by
  unfold msk line blockScore
  rw [nat_val, nat_val]
  exact if_congr Iff.rfl (half_sum (fun l => x5 (ix3 0 K l)) (fun l => x4 (ix3 0 Q l)) c) rfl

theorem value_eq {x6 : Vec Ideal S1x128x4096 .bf16} (h6 : ∀ i, Real' (x6 i)) (K : Fin 4096) (e : Fin 128) :
    (blockValue x6 K.val ⟨e.val, by omega⟩ : EReal) = x6 (ix3 0 e K) := by
  unfold blockValue
  rw [dif_pos e.isLt, nat_val]
  exact EReal.coe_toReal (h6 _).1 (h6 _).2

/-- The output block, entry by entry. -/
theorem out_at (c : Dev nD) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S1x128x4096 .bf16) (harg8 : arg8.IsWhole) (arg9 : Memref sig .tc .vmem S128x1 .f32) (harg9 : arg9.IsWhole) (arg10 : Memref sig .tc .vmem S1x4096x128 .bf16) (harg10 : arg10.IsWhole) (arg11 : Memref sig .tc .vmem S2x2x144x2048 .f32) (harg11 : arg11.IsWhole) (arg12 : Memref sig .tc .vmem S2x2x512x2048 .f32) (harg12 : arg12.IsWhole) (arg13 : Memref sig .tc .vmem S2x2x1x2048 .f32) (harg13 : arg13.IsWhole)
    (x0 x1 x2 x3 : Vec Ideal S1x64 .f32) (x4 x5 : Vec Ideal S1x4096x128 .bf16) (x6 : Vec Ideal S1x128x4096 .bf16) (x7 : Vec Ideal S128x1 .f32)
    (h0 : ∀ i, Real' (x0 i)) (h1 : ∀ i, Real' (x1 i)) (h2 : ∀ i, Real' (x2 i)) (h3 : ∀ i, Real' (x3 i))
    (h4 : ∀ i, Real' (x4 i)) (h5 : ∀ i, Real' (x5 i)) (h6 : ∀ i, Real' (x6 i)) (Q : Fin 4096) (e : Fin 128) :
    out0_A_8 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6 x7 (ix3 0 Q e)
      = subln (attnRow (lamOf (fun i => x0 (ix2 0 i)) (fun i => x1 (ix2 0 i)) (fun i => x2 (ix2 0 i)) (fun i => x3 (ix2 0 i)))
          (line x4 x5 0 Q) (line x4 x5 1 Q) (fun K e => x6 (ix3 0 e K))) (fun e => x7 (ix2 e 0)) e := by
  have hE := good (arg6 := arg6) (harg6 := harg6) (arg7 := arg7) (harg7 := harg7) (arg8 := arg8) (harg8 := harg8) (arg11 := arg11) (arg12 := arg12) (arg13 := arg13) h4 h5 h6
  have hv : ∀ K, blockValue x6 K ⟨128, by omega⟩ = 1 := fun K => dif_neg (by simp)
  unfold out0_A_8
  refine (congrFun (congrArg (fun L => VO0_8.read (Elt Ideal) (VO0_8.writes (Elt Ideal) VO0_8.junk L))
    (run_pieces c i arg2 harg2 arg3 harg3 arg4 harg4 arg5 harg5 arg6 harg6 arg7 harg7 arg8 harg8 arg9 harg9 arg10 harg10 arg11 harg11 arg12 harg12 arg13 harg13 x0 x1 x2 x3 x4 x5 x6 x7)) _).trans ?_
  refine (halves VO0_8 _ _ _ Q e).trans ?_
  have hlam := lam_at (View.readAt (Elt Ideal) arg2.view (Rect.unit ![0, 0] S1x64.size inb_S1x64_S1x64_0_0).toLoadRect (harg2.unread x0))
    (View.readAt (Elt Ideal) arg3.view (Rect.unit ![0, 0] S1x64.size inb_S1x64_S1x64_0_0).toLoadRect (harg3.unread x1))
    (View.readAt (Elt Ideal) arg4.view (Rect.unit ![0, 0] S1x64.size inb_S1x64_S1x64_0_0).toLoadRect (harg4.unread x2))
    (View.readAt (Elt Ideal) arg5.view (Rect.unit ![0, 0] S1x64.size inb_S1x64_S1x64_0_0).toLoadRect (harg5.unread x3))
  rw [show (fun i : Fin 64 => View.readAt (Elt Ideal) arg2.view (Rect.unit ![0, 0] S1x64.size inb_S1x64_S1x64_0_0).toLoadRect (harg2.unread x0) (ix2 0 i)) = (fun i => x0 (ix2 0 i)) from funext fun i => readFlat harg2 x0 0 i,
    show (fun i : Fin 64 => View.readAt (Elt Ideal) arg3.view (Rect.unit ![0, 0] S1x64.size inb_S1x64_S1x64_0_0).toLoadRect (harg3.unread x1) (ix2 0 i)) = (fun i => x1 (ix2 0 i)) from funext fun i => readFlat harg3 x1 0 i,
    show (fun i : Fin 64 => View.readAt (Elt Ideal) arg4.view (Rect.unit ![0, 0] S1x64.size inb_S1x64_S1x64_0_0).toLoadRect (harg4.unread x2) (ix2 0 i)) = (fun i => x2 (ix2 0 i)) from funext fun i => readFlat harg4 x2 0 i,
    show (fun i : Fin 64 => View.readAt (Elt Ideal) arg5.view (Rect.unit ![0, 0] S1x64.size inb_S1x64_S1x64_0_0).toLoadRect (harg5.unread x3) (ix2 0 i)) = (fun i => x3 (ix2 0 i)) from funext fun i => readFlat harg5 x3 0 i] at hlam
  have hl := lamOf_real (a := fun i => x0 (ix2 0 i)) (b := fun i => x1 (ix2 0 i)) (c := fun i => x2 (ix2 0 i)) (d := fun i => x3 (ix2 0 i)) (fun _ => h0 _) (fun _ => h1 _) (fun _ => h2 _) (fun _ => h3 _)
  rw [← hlam] at hl
  have hval : (fun (K : Fin 4096) (e : Fin 128) => (blockValue x6 K.val ⟨e.val, by omega⟩ : EReal)) = fun K e => x6 (ix3 0 e K) :=
    funext fun K => funext fun e => value_eq h6 K e
  have hsw : (fun e : Fin 128 => View.readAt (Elt Ideal) arg9.view (Rect.unit ![0, 0] S128x1.size inb_S128x1_S128x1_0_0).toLoadRect (harg9.unread x7) (ix2 e 0)) = fun e => x7 (ix2 e 0) :=
    funext fun e => readFlat harg9 x7 e 0
  have hline : ∀ (c : Fin 2) (n : ℕ), n = Q.val → (fun K : Fin 4096 => msk (blockScore x4 x5) c n K.val) = line x4 x5 c Q := fun c n hn =>
    funext fun K => by rw [hn]; exact line_eq x4 x5 c Q K
  split
  · refine (finish_at hE hv (done0 hE) _ hl _ _ e).trans ?_
    rw [hlam, hval, hsw, hline 0 _ (by simp), hline 1 _ (by simp)]
  · refine (finish_at hE hv (done1 hE) _ hl _ _ e).trans ?_
    rw [hlam, hval, hsw, hline 0 _ (by simp; omega), hline 1 _ (by simp; omega)]

end Cert.KernelIdeal.Attn

end
-- ==== Proof.Attn.Reference.lean ====
/- The result of the attention's reference: every row of every head. -/
module

public import Idealize.ShloMosaic.Lib.Pointwise
public import Idealize.ShloMosaic.Lib.WordCmp
public import proofs.«01_k».proof.Proof.Attn.Rows
public import proofs.«01_k».proof.Proof.Gen.ReferenceIdeal.Run

@[expose] public section

set_option maxRecDepth 16384

noncomputable section

namespace Cert.ReferenceIdeal.Attn

open Idealize.ShloMosaic Idealize.ShloMosaic.TcCoe Idealize.SL.Sem
open Cert.ReferenceIdeal Cert.ReferenceIdeal.Gen Cert.ReferenceIdeal.Value Cert.Half

variable (m : (ℓ : Loc nD τ sig) → Buf (Elt Ideal) ℓ)

/-- The scores. -/
def scores (q k : FVec Ideal S4x4096x512 .bf16) : FVec Ideal S4x4x2x4096x4096 .f32 :=
  Host.dotGeneral dot_S4x4096x4x2x64_S4x4096x4x2x64_S4x4x2x4096x4096_4_4_1_1_023_023 none (shapeCast _ (extf .f32 q bitsLt_bf16_f32) shapeCasts_S4x4096x512_S4x4096x4x2x64) (shapeCast _ (extf .f32 k bitsLt_bf16_f32) shapeCasts_S4x4096x512_S4x4096x4x2x64)

/-- The scores, those of later keys masked. -/
def causal (s : FVec Ideal S4x4x2x4096x4096 .f32) : FVec Ideal S4x4x2x4096x4096 .f32 :=
  select (broadcastInDim S4x4x2x4096x4096 ![3, 4] bcast_S4096x4096_S4x4x2x4096x4096_3_4 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))) s (broadcastInDim S4x4x2x4096x4096 ![] bcast_S_S4x4x2x4096x4096 (id (constant S_ .f32 0xFF800000#32)))

/-- Their weights. -/
def weights (s : FVec Ideal S4x4x2x4096x4096 .f32) : FVec Ideal S4x4x2x4096x4096 .f32 :=
  Host.powf (broadcastInDim S4x4x2x4096x4096 ![] bcast_S_S4x4x2x4096x4096 (constant S_ .f32 0x40000000#32)) (subf s (broadcastInDim S4x4x2x4096x4096 ![0, 1, 2, 3, 4] bcast_S4x4x2x4096x1_S4x4x2x4096x4096_0_1_2_3_4 (broadcastInDim S4x4x2x4096x1 ![0, 1, 2, 3] bcast_S4x4x2x4096_S4x4x2x4096x1_0_1_2_3 (Host.reduce FloatOps.maximumf s (constant S_ .f32 0xFF800000#32) reducesTo_S4x4x2x4096x4096_S4x4x2x4096_d4 h_S_))))

/-- The weights over their sums. -/
def share (p : FVec Ideal S4x4x2x4096x4096 .f32) : FVec Ideal S4x4x2x4096x4096 .f32 :=
  Host.divf p (broadcastInDim S4x4x2x4096x4096 ![0, 1, 2, 3, 4] bcast_S4x4x2x4096x1_S4x4x2x4096x4096_0_1_2_3_4 (broadcastInDim S4x4x2x4096x1 ![0, 1, 2, 3] bcast_S4x4x2x4096_S4x4x2x4096x1_0_1_2_3 (Host.reduceAdd p (constant S_ .f32 0x00000000#32) reducesTo_S4x4x2x4096x4096_S4x4x2x4096_d4 h_S_)))

/-- The second softmax's weight. -/
def lam (a b c d : FVec Ideal S64 .f32) : FVec Ideal S_ .f32 :=
  addf (subf (Host.exp (Host.reduceAdd (mulf a b) (constant S_ .f32 0x00000000#32) reducesTo_S64_S_d0 h_S_)) (Host.exp (Host.reduceAdd (mulf c d) (constant S_ .f32 0x00000000#32) reducesTo_S64_S_d0 h_S_))) (constant S_ .f32 0x3E4CCCCD#32)

/-- The difference of the two softmaxes. -/
def differ (l : FVec Ideal S_ .f32) (p : FVec Ideal S4x4x2x4096x4096 .f32) : FVec Ideal S4x4x4096x4096 .f32 :=
  subf (shapeCast _ (extractStridedSlice S4x4x1x4096x4096 ![0, 0, 0, 0, 0] p slices_S4x4x2x4096x4096_S4x4x1x4096x4096_0_0_0_0_0) shapeCasts_S4x4x1x4096x4096_S4x4x4096x4096) (mulf (broadcastInDim S4x4x4096x4096 ![] bcast_S_S4x4x4096x4096 l) (shapeCast _ (extractStridedSlice S4x4x1x4096x4096 ![0, 0, 1, 0, 0] p slices_S4x4x2x4096x4096_S4x4x1x4096x4096_0_0_1_0_0) shapeCasts_S4x4x1x4096x4096_S4x4x4096x4096))

/-- The values' sums. -/
def apply (vt : FVec Ideal S4x512x4096 .bf16) (p : FVec Ideal S4x4x4096x4096 .f32) : FVec Ideal S4x4096x4x128 .f32 :=
  transpose S4x4096x4x128 [0, 3, 1, 2] (Host.dotGeneral dot_S4x4x128x4096_S4x4x4096x4096_S4x4x128x4096_3_3_2_2_01_01 none (shapeCast _ (extf .f32 vt bitsLt_bf16_f32) shapeCasts_S4x512x4096_S4x4x128x4096) p) transposes_S4x4x128x4096_S4x4096x4x128_0_3_1_2

/-- The heads' rows normalised. -/
def close (o : FVec Ideal S4x4096x4x128 .f32) (w : FVec Ideal S128 .f32) : FVec Ideal S4x4096x512 .bf16 :=
  truncf .bf16 (shapeCast _ (mulf (mulf (mulf o (broadcastInDim S4x4096x4x128 ![0, 1, 2, 3] bcast_S4x4096x4x1_S4x4096x4x128_0_1_2_3 (Host.rsqrt (addf (Host.divf (broadcastInDim S4x4096x4x1 ![0, 1, 2] bcast_S4x4096x4_S4x4096x4x1_0_1_2 (Host.reduceAdd (mulf o o) (constant S_ .f32 0x00000000#32) reducesTo_S4x4096x4x128_S4x4096x4_d3 h_S_)) (broadcastInDim S4x4096x4x1 ![] bcast_S_S4x4096x4x1 (constant S_ .f32 0x43000000#32))) (broadcastInDim S4x4096x4x1 ![] bcast_S_S4x4096x4x1 (constant S_ .f32 0x3727C5AC#32)))))) (broadcastInDim S4x4096x4x128 ![0, 1, 2, 3] bcast_S1x1x1x128_S4x4096x4x128_0_1_2_3 (broadcastInDim S1x1x1x128 ![3] bcast_S128_S1x1x1x128_3 w))) (broadcastInDim S4x4096x4x128 ![] bcast_S_S4x4096x4x128 (constant S_ .f32 0x3F4CCCCD#32))) shapeCasts_S4x4096x4x128_S4x4096x512) bitsLt_bf16_f32

/-- The whole of the reference. -/
def whole (q k : FVec Ideal S4x4096x512 .bf16) (vt : FVec Ideal S4x512x4096 .bf16) (a b c d : FVec Ideal S64 .f32) (w : FVec Ideal S128 .f32) :
    FVec Ideal S4x4096x512 .bf16 :=
  close (apply vt (differ (lam a b c d) (share (weights (causal (scores q k)))))) w

/-- The reference's result is that. -/
theorem res_eq (c : Dev nD) : (show FVec Ideal S4x4096x512 .bf16 from res_out0 m c)
    = whole (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  unfold res_out0 res_main_v57 whole close apply differ lam share weights causal scores
  rfl

/-- A head's column of the arrays of all heads. -/
def lane (h : Fin 4) (e : Fin 128) : Fin 512 := ⟨h.val * 128 + e.val, by omega⟩
def lane2 (h : Fin 4) (c : Fin 2) (e : Fin 64) : Fin 512 := ⟨h.val * 128 + c.val * 64 + e.val, by omega⟩

theorem scores_at (q k : FVec Ideal S4x4096x512 .bf16) (b h : Fin 4) (c : Fin 2) (Q K : Fin 4096) :
    scores q k (ix5 b h c Q K) = ∑ e : Fin 64, q (ix3 b Q (lane2 h c e)) * k (ix3 b K (lane2 h c e)) := by
  unfold scores lane2
  pointwise

theorem causal_at (s : FVec Ideal S4x4x2x4096x4096 .f32) (b h : Fin 4) (c : Fin 2) (Q K : Fin 4096) :
    causal s (ix5 b h c Q K) = if K.val ≤ Q.val then s (ix5 b h c Q K) else ⊥ := by
  unfold causal
  pointwise
  rw [WordCmp.cmpi_sle_ofNat (by omega) (by omega), WordCmp.select_decide]
  exact if_congr Iff.rfl rfl ofBits_bot

theorem weights_at (s : FVec Ideal S4x4x2x4096x4096 .f32) (b h : Fin 4) (c : Fin 2) (Q K : Fin 4096) :
    weights s (ix5 b h c Q K)
      = Ideal.pow 2 (s (ix5 b h c Q K) - (Finset.univ : Finset (Fin 4096)).fold max ⊥ (fun K => s (ix5 b h c Q K))) := by
  unfold weights
  pointwise
  rw [ofBits_bot, ofBits_two]

theorem share_at (p : FVec Ideal S4x4x2x4096x4096 .f32) (b h : Fin 4) (c : Fin 2) (Q K : Fin 4096) :
    share p (ix5 b h c Q K) = Ideal.div (p (ix5 b h c Q K)) (∑ K, p (ix5 b h c Q K)) := by
  unfold share
  pointwise

theorem lam_at (a b c d : FVec Ideal S64 .f32) : lam a b c d ix0 = lamOf (fun i => a (ix1 i)) (fun i => b (ix1 i)) (fun i => c (ix1 i)) (fun i => d (ix1 i)) := by
  unfold lam lamOf
  pointwise

theorem differ_at (l : FVec Ideal S_ .f32) (p : FVec Ideal S4x4x2x4096x4096 .f32) (b h : Fin 4) (Q K : Fin 4096) :
    differ l p (ix4 b h Q K) = p (ix5 b h 0 Q K) - l ix0 * p (ix5 b h 1 Q K) := by
  unfold differ
  pointwise

theorem apply_at (vt : FVec Ideal S4x512x4096 .bf16) (p : FVec Ideal S4x4x4096x4096 .f32) (b h : Fin 4) (Q : Fin 4096) (e : Fin 128) :
    apply vt p (ix4 b Q h e) = ∑ K : Fin 4096, vt (ix3 b (lane h e) K) * p (ix4 b h Q K) := by
  unfold apply lane
  pointwise

theorem close_at (o : FVec Ideal S4x4096x4x128 .f32) (w : FVec Ideal S128 .f32) (b h : Fin 4) (Q : Fin 4096) (e : Fin 128) :
    close o w (ix3 b Q (lane h e)) = subln (fun e => o (ix4 b Q h e)) (fun e => w (ix1 e)) e := by
  unfold close subln lane
  pointwise

/-- The masked scores of a query in half `c` of a head. -/
def line (q k : FVec Ideal S4x4096x512 .bf16) (b h : Fin 4) (c : Fin 2) (Q : Fin 4096) (K : Fin 4096) : EReal :=
  if K.val ≤ Q.val then ∑ e : Fin 64, q (ix3 b Q (lane2 h c e)) * k (ix3 b K (lane2 h c e)) else ⊥

/-- A row of the reference. -/
theorem whole_at (q k : FVec Ideal S4x4096x512 .bf16) (vt : FVec Ideal S4x512x4096 .bf16) (a b c d : FVec Ideal S64 .f32) (w : FVec Ideal S128 .f32)
    (n h : Fin 4) (Q : Fin 4096) (e : Fin 128) :
    whole q k vt a b c d w (ix3 n Q (lane h e))
      = subln (attnRow (lamOf (fun i => a (ix1 i)) (fun i => b (ix1 i)) (fun i => c (ix1 i)) (fun i => d (ix1 i))) (line q k n h 0 Q) (line q k n h 1 Q)
          (fun K e => vt (ix3 n (lane h e) K))) (fun e => w (ix1 e)) e := by
  unfold whole
  rw [close_at]
  refine congrArg (fun o => subln o _ e) (funext fun e' => ?_)
  rw [apply_at]
  unfold attnRow soft line
  simp only [differ_at, share_at, weights_at, causal_at, scores_at, lam_at]

end Cert.ReferenceIdeal.Attn

end
-- ==== Proof.Attn.Array.lean ====
/- The result array of the attention is the reference's, where its arguments are numbers. -/
module

public import proofs.«01_k».proof.Proof.Attn.Block
public import proofs.«01_k».proof.Proof.Attn.Reference
public import proofs.«01_k».proof.Proof.Gen.KernelIdeal.Value

@[expose] public section

set_option maxRecDepth 16384

noncomputable section

namespace Cert.KernelIdeal.Attn

open Idealize.ShloMosaic Idealize.ShloMosaic.TcCoe Idealize.SL.Sem
open Cert.KernelIdeal Cert.KernelIdeal.Gen Cert.Half
open Idealize.ShloMosaic.Pipeline (Dat)
open Cert.ReferenceIdeal.Attn (lane lane2 whole whole_at)

variable (m : (ℓ : Loc nD τ sig) → Buf (Elt Ideal) ℓ)

/-- Which block of its array each window holds at a grid point. -/
theorem idx : ∀ t : Fin cfg0.N, win0_0.index t = ![0, 0] ∧ win0_1.index t = ![0, 0] ∧ win0_2.index t = ![0, 0] ∧ win0_3.index t = ![0, 0]
    ∧ win0_4.index t = ![t.val / 4, 0, t.val % 4] ∧ win0_5.index t = ![t.val / 4, 0, t.val % 4] ∧ win0_6.index t = ![t.val / 4, t.val % 4, 0]
    ∧ win0_7.index t = ![0, 0] ∧ win0_8.index t = ![t.val / 4, 0, t.val % 4] :=
  (by decide +kernel : ∀ t : Fin grid0.N, _)

/-- The batch entry and the head of a grid point. -/
def batch (t : Fin cfg0.N) : Fin 4 := ⟨t.val / 4, Nat.div_lt_of_lt_mul t.isLt⟩
def head (t : Fin cfg0.N) : Fin 4 := ⟨t.val % 4, Nat.mod_lt _ (by norm_num)⟩

section Blocks

variable (c : Dev nD) (t : Fin cfg0.N)

theorem blk0 (i : Fin 64) : iblk m c 0 t (ix2 0 i) = m ((c : Thread nD τ).loc main_arg3) (ix1 i) := by
  simp only [iblk]
  entry_read
  blk_simp
  pointwise
  blk_point [idx t]

theorem blk1 (i : Fin 64) : iblk m c 1 t (ix2 0 i) = m ((c : Thread nD τ).loc main_arg4) (ix1 i) := by
  simp only [iblk]
  entry_read
  blk_simp
  pointwise
  blk_point [idx t]

theorem blk2 (i : Fin 64) : iblk m c 2 t (ix2 0 i) = m ((c : Thread nD τ).loc main_arg5) (ix1 i) := by
  simp only [iblk]
  entry_read
  blk_simp
  pointwise
  blk_point [idx t]

theorem blk3 (i : Fin 64) : iblk m c 3 t (ix2 0 i) = m ((c : Thread nD τ).loc main_arg6) (ix1 i) := by
  simp only [iblk]
  entry_read
  blk_simp
  pointwise
  blk_point [idx t]

theorem blk7 (i : Fin 128) : iblk m c 7 t (ix2 i 0) = m ((c : Thread nD τ).loc main_arg7) (ix1 i) := by
  simp only [iblk]
  entry_read
  blk_simp
  pointwise
  blk_point [idx t]

theorem blk4 (Q : Fin 4096) (l : Fin 128) : iblk m c 4 t (ix3 0 Q l) = m ((c : Thread nD τ).loc main_arg0) (ix3 (batch t) Q (lane (head t) l)) := by
  unfold batch head lane
  blk_point [iblk, V, idx t]

theorem blk5 (Q : Fin 4096) (l : Fin 128) : iblk m c 5 t (ix3 0 Q l) = m ((c : Thread nD τ).loc main_arg1) (ix3 (batch t) Q (lane (head t) l)) := by
  unfold batch head lane
  blk_point [iblk, V, idx t]

theorem blk6 (l : Fin 128) (K : Fin 4096) : iblk m c 6 t (ix3 0 l K) = m ((c : Thread nD τ).loc main_arg2) (ix3 (batch t) (lane (head t) l) K) := by
  unfold batch head lane
  blk_point [iblk, V, idx t]

end Blocks

/-- The arguments but the gain are numbers. -/
structure Reals (c : Dev nD) : Prop where
  q : ∀ i, Real' (m ((c : Thread nD τ).loc main_arg0) i)
  k : ∀ i, Real' (m ((c : Thread nD τ).loc main_arg1) i)
  vt : ∀ i, Real' (m ((c : Thread nD τ).loc main_arg2) i)
  lq1 : ∀ i, Real' (m ((c : Thread nD τ).loc main_arg3) i)
  lk1 : ∀ i, Real' (m ((c : Thread nD τ).loc main_arg4) i)
  lq2 : ∀ i, Real' (m ((c : Thread nD τ).loc main_arg5) i)
  lk2 : ∀ i, Real' (m ((c : Thread nD τ).loc main_arg6) i)

theorem idx2 {A : ℕ} (y : (⟨2, ![1, A]⟩ : Shape).Idx) : ∃ i : Fin A, y = ix2 0 i :=
  ⟨y 1, (eq_ix2 y).trans (congrArg (fun z : Fin 1 => ix2 z (y 1)) (Subsingleton.elim (α := Fin 1) _ _))⟩

theorem idx3 {A B : ℕ} (y : (⟨3, ![1, A, B]⟩ : Shape).Idx) : ∃ (i : Fin A) (j : Fin B), y = ix3 0 i j :=
  ⟨y 1, y 2, (eq_ix3 y).trans (congrArg (fun z : Fin 1 => ix3 z (y 1) (y 2)) (Subsingleton.elim (α := Fin 1) _ _))⟩

theorem all2 {A : ℕ} {x : Vec Ideal ⟨2, ![1, A]⟩ .f32} (h : ∀ i : Fin A, Real' (x (ix2 0 i))) (y : (⟨2, ![1, A]⟩ : Shape).Idx) : Real' (x y) := by
  obtain ⟨i, rfl⟩ := idx2 y
  exact h _

theorem all3 {A B : ℕ} {x : Vec Ideal ⟨3, ![1, A, B]⟩ .bf16} (h : ∀ (i : Fin A) (j : Fin B), Real' (x (ix3 0 i j))) (y : (⟨3, ![1, A, B]⟩ : Shape).Idx) : Real' (x y) := by
  obtain ⟨i, j, rfl⟩ := idx3 y
  exact h _ _

/-- The result array after the run. -/
theorem final (c : Dev nD) (h : Reals m c) : (dats m 0 c).arrAt 8 (cfgs 0).N
    = whole (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (dats m 0 c).arrAt_eq_of_covers 8 _ (by decide +kernel) fun t _ y => ?_
  blk_simp
  rw [after0_8]
  unfold outsAt0
  obtain ⟨Q, e, rfl⟩ := idx3 (A := 4096) (B := 128) y
  refine (out_at _ _ _ _ _ _ _ _ _ _ _ _ _ _ _ _ _ _ _ _ _ _ _ _ _ _ _ _ _ _ _ _ _ _
    (all2 fun i => by rw [blk0]; exact h.lq1 _) (all2 fun i => by rw [blk1]; exact h.lk1 _) (all2 fun i => by rw [blk2]; exact h.lq2 _) (all2 fun i => by rw [blk3]; exact h.lk2 _)
    (all3 fun i j => by rw [blk4]; exact h.q _) (all3 fun i j => by rw [blk5]; exact h.k _) (all3 fun i j => by rw [blk6]; exact h.vt _) Q e).trans ?_
  have hl : ∀ cc : Fin 2, line (iblk m c 4 t) (iblk m c 5 t) cc Q
      = Cert.ReferenceIdeal.Attn.line (m ((c : Thread nD τ).loc main_arg0)) (m ((c : Thread nD τ).loc main_arg1)) (batch t) (head t) cc Q := fun cc => funext fun K => by
    unfold line Cert.ReferenceIdeal.Attn.line
    refine if_congr Iff.rfl (Finset.sum_congr rfl fun l _ => ?_) rfl
    rw [blk4, blk5]
    have hlane : lane (head t) (lane64 cc l) = lane2 (head t) cc l := Fin.ext (by simp only [lane, lane2, lane64]; omega)
    rw [hlane]
  rw [hl 0, hl 1]
  simp only [blk0, blk1, blk2, blk3, blk6, blk7]
  refine (whole_at _ _ _ _ _ _ _ _ (batch t) (head t) Q e).symm.trans (congrArg _ ?_)
  unfold batch head lane
  blk_point [idx t]

end Cert.KernelIdeal.Attn

end
-- ==== Proof.Attn.Claim.lean ====
/- The claim that the attention and its reference agree over the extended reals. -/
module

public import proofs.«01_k».proof.Defs
public import proofs.«01_k».proof.Proof.Gen.Pre_finite
public import proofs.«01_k».proof.Proof.Attn.Array

@[expose] public section

set_option maxRecDepth 16384

noncomputable section

namespace Cert.Half

open Idealize.ShloMosaic Idealize.ShloMosaic.TcCoe Idealize.SL.Sem

/-- A comparison of sizes with infinity that holds everywhere. -/
theorem below_top {φ : FTy} {s : Shape} {x : FVec Ideal s φ} {b : FVec Ideal s φ} (hb : ∀ i, b i = ⊤) (h : cmpf .olt (Host.absf x) b = fun _ => 1#1) (i : s.Idx) : Real' (x i) := by
  have h := congrFun h i
  have h' : BitVec.ofBool (decide (max (x i) (-(x i)) < b i)) = 1#1 := h
  refine real_of_abs ?_
  rw [← hb i]
  by_contra hn
  rw [decide_eq_false hn] at h'
  exact absurd h' (by decide)

attribute [local instance] Cert.KernelIdeal.Gen.facts Cert.ReferenceIdeal.Gen.facts Cert.Pre_finite.Gen.facts

/-- What the precondition says. -/
theorem reals {m : (ℓ : Loc Cert.KernelIdeal.nD Cert.KernelIdeal.τ Cert.KernelIdeal.sig) → Buf (Elt Ideal) ℓ} (h : Cert.Pre_KernelIdeal_finite m)
    (c : Dev Cert.KernelIdeal.nD) : Cert.KernelIdeal.Attn.Reals m c := by
  obtain ⟨h0, h1, h2, h3, h4, h5, h6⟩ := h c
  exact ⟨fun i => below_top (fun _ => ofBits_top) h0 i, fun i => below_top (fun _ => ofBits_top) h1 i, fun i => below_top (fun _ => ofBits_top) h2 i,
    fun i => below_top (fun _ => ofBits_top) h3 i, fun i => below_top (fun _ => ofBits_top) h4 i, fun i => below_top (fun _ => ofBits_top) h5 i,
    fun i => below_top (fun _ => ofBits_top) h6 i⟩

/-- The reference's frame: its run keeps the arguments, and it declares no semaphore. -/
theorem attn_reference_frame : Cert.quiescent_ReferenceIdeal := fun m ρ _ =>
  (θ_run _ _ _).mono (fun r h => ⟨fun c => (h c).2, sem_eq_zero_of_no_sems (by decide) r.2⟩) (Cert.ReferenceIdeal.Value.run (F := Ideal) m ρ)

theorem attn_reference_frame_pre : Cert.quiescent_ReferenceIdeal_pre_finite := fun m ρ _ =>
  (θ_run _ _ _).mono (fun r h => ⟨fun c => (h c).2, sem_eq_zero_of_no_sems (by decide) r.2⟩) (Cert.ReferenceIdeal.Value.run (F := Ideal) m ρ)

/-- The kernel and its reference end with equal results. -/
theorem attn : Cert.algebraic_KernelIdeal_ReferenceIdeal_pre_finite := by
  intro m ρ m' ρ' hpre hag
  refine ⟨fun c => Cert.ReferenceIdeal.Attn.whole (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), (θ_run _ _ _).mono (fun _ h c => ?_) (Cert.KernelIdeal.Value.run_blocks m ρ),
    (θ_run _ _ _).mono (fun _ h c => ?_) (Cert.ReferenceIdeal.Value.run (F := Ideal) m' ρ')⟩
  · exact ⟨(h c).1.trans (Cert.KernelIdeal.Attn.final m c (reals hpre c)), (h c).2⟩
  · obtain ⟨e0, e1, e2, e3, e4, e5, e6, e7⟩ := hag c
    refine ⟨(h c).1.trans ((Cert.ReferenceIdeal.Attn.res_eq m' c).trans ?_), (h c).2⟩
    rw [e0, e1, e2, e3, e4, e5, e6, e7]

end Cert.Half

end
-- ==== Proof.ProjIdeal.RunA.lean ====
/- The run of the input projection's body at the first point of a batch entry, where the carried row starts at zero. -/
module

public import proofs.«01_k».proof.Proof.Gen.ProjIdeal.Frame.Runs

@[expose] public section

set_option maxRecDepth 16384

noncomputable section

namespace Cert.ProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 10000000 in
/-- The body at a batch entry's first point: from its inputs, with its outputs and its carried row at anything, it runs and hands the
    inputs back as they were. -/
theorem kernelRun0_A (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x1536 .bf16) (harg4 : arg4.IsWhole) (arg5 : Memref sig .tc .vmem S1024x384 .bf16) (harg5 : arg5.IsWhole) (arg6 : Memref sig .tc .vmem S1024x1536 .bf16) (harg6 : arg6.IsWhole) (arg7 : Memref sig .tc .vmem S1x1920 .f32) (harg7 : arg7.IsWhole) (arg8 : Memref sig .tc .vmem S384x1536 .bf16) (harg8 : arg8.IsWhole) (arg9 : Memref sig .tc .vmem S512x512 .bf16) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512x512 .bf16) (harg15 : arg15.IsWhole) (arg16 : Memref sig .tc .vmem S1x512x512 .bf16) (harg16 : arg16.IsWhole) (arg17 : Memref sig .tc .vmem S1x512x512 .bf16) (harg17 : arg17.IsWhole) (arg18 : Memref sig .tc .vmem S1x512x512 .bf16) (harg18 : arg18.IsWhole) (arg19 : Memref sig .tc .vmem S1x512x512 .bf16) (harg19 : arg19.IsWhole) (arg20 : Memref sig .tc .vmem S1x512x512 .bf16) (harg20 : arg20.IsWhole) (arg21 : Memref sig .tc .vmem S1x512x512 .bf16) (harg21 : arg21.IsWhole) (arg22 : Memref sig .tc .vmem S1x8x512 .f32) (harg22 : arg22.IsWhole) (arg23 : Memref sig .tc .vmem S1x512x512 .f32) (harg23 : arg23.IsWhole) (arg24 : Memref sig .tc .vmem S1x512x512 .f32) (harg24 : arg24.IsWhole) (arg25 : Memref sig .tc .vmem S1x512x512 .bf16) (harg25 : arg25.IsWhole) (arg26 : Memref sig .tc .vmem S1x512x512 .bf16) (harg26 : arg26.IsWhole) (arg27 : Memref sig .tc .vmem S1x512x512 .bf16) (harg27 : arg27.IsWhole) (arg28 : Memref sig .tc .vmem S1x1920 .f32) (harg28 : arg28.IsWhole) (hc0 : cond0_0 i)
    (x0 : Vec F S1x512x1024 .f32) (x1 : Vec F S1x1024 .f32) (x2 : Vec F S1024x1536 .bf16) (x3 : Vec F S1024x384 .bf16) (x4 : Vec F S1024x1536 .bf16) (x5 : Vec F S1x1920 .f32) (x6 : Vec F S384x1536 .bf16) (x7 : Vec F S512x512 .bf16) (x8 : Vec F S1x512 .f32) (x9 : Vec F S1x512 .f32) (x10 : Vec F S1x512 .f32) (x11 : Vec F S1x512 .f32) (x12 : Vec F S1x512 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d)) -∗ K ⟨⟩))
          ⊢ wp frame (wpE (defs₀ (F := F)) Variants.none c none) E (cc0_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K := by
    intro E K
    simp only [cc0_proj_eq_skeleton]; unfold cc0_proj_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [H24]
    · iexists _, _; isplitr; swap; · iexact H24
      ipureintro; rfl
    isplitl [H25]
    · iexists _, _; isplitr; swap; · iexact H25
      ipureintro; rfl
    iexists _, _; isplitr; swap; · iexact HS0
    ipureintro; rfl

end Cert.ProjIdeal.Gen

end
-- ==== Proof.ProjIdeal.RunB.lean ====
/- The run of the input projection's body at the later points, which take the carried row. -/
module

public import proofs.«01_k».proof.Proof.ProjIdeal.RunA

@[expose] public section

set_option maxRecDepth 16384

noncomputable section

namespace Cert.ProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 10000000 in
/-- The body at a later point: from its inputs, with its outputs and its carried row at anything, it runs and hands the inputs back as
    they were. -/
theorem kernelRun0_B (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x1536 .bf16) (harg4 : arg4.IsWhole) (arg5 : Memref sig .tc .vmem S1024x384 .bf16) (harg5 : arg5.IsWhole) (arg6 : Memref sig .tc .vmem S1024x1536 .bf16) (harg6 : arg6.IsWhole) (arg7 : Memref sig .tc .vmem S1x1920 .f32) (harg7 : arg7.IsWhole) (arg8 : Memref sig .tc .vmem S384x1536 .bf16) (harg8 : arg8.IsWhole) (arg9 : Memref sig .tc .vmem S512x512 .bf16) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512x512 .bf16) (harg15 : arg15.IsWhole) (arg16 : Memref sig .tc .vmem S1x512x512 .bf16) (harg16 : arg16.IsWhole) (arg17 : Memref sig .tc .vmem S1x512x512 .bf16) (harg17 : arg17.IsWhole) (arg18 : Memref sig .tc .vmem S1x512x512 .bf16) (harg18 : arg18.IsWhole) (arg19 : Memref sig .tc .vmem S1x512x512 .bf16) (harg19 : arg19.IsWhole) (arg20 : Memref sig .tc .vmem S1x512x512 .bf16) (harg20 : arg20.IsWhole) (arg21 : Memref sig .tc .vmem S1x512x512 .bf16) (harg21 : arg21.IsWhole) (arg22 : Memref sig .tc .vmem S1x8x512 .f32) (harg22 : arg22.IsWhole) (arg23 : Memref sig .tc .vmem S1x512x512 .f32) (harg23 : arg23.IsWhole) (arg24 : Memref sig .tc .vmem S1x512x512 .f32) (harg24 : arg24.IsWhole) (arg25 : Memref sig .tc .vmem S1x512x512 .bf16) (harg25 : arg25.IsWhole) (arg26 : Memref sig .tc .vmem S1x512x512 .bf16) (harg26 : arg26.IsWhole) (arg27 : Memref sig .tc .vmem S1x512x512 .bf16) (harg27 : arg27.IsWhole) (arg28 : Memref sig .tc .vmem S1x1920 .f32) (harg28 : arg28.IsWhole) (hc0 : ¬cond0_0 i)
    (x0 : Vec F S1x512x1024 .f32) (x1 : Vec F S1x1024 .f32) (x2 : Vec F S1024x1536 .bf16) (x3 : Vec F S1024x384 .bf16) (x4 : Vec F S1024x1536 .bf16) (x5 : Vec F S1x1920 .f32) (x6 : Vec F S384x1536 .bf16) (x7 : Vec F S512x512 .bf16) (x8 : Vec F S1x512 .f32) (x9 : Vec F S1x512 .f32) (x10 : Vec F S1x512 .f32) (x11 : Vec F S1x512 .f32) (x12 : Vec F S1x512 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d)) -∗ K ⟨⟩))
          ⊢ wp frame (wpE (defs₀ (F := F)) Variants.none c none) E (cc0_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K := by
    intro E K
    simp only [cc0_proj_eq_skeleton]; unfold cc0_proj_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [H24]
    · iexists _, _; isplitr; swap; · iexact H24
      ipureintro; rfl
    isplitl [H25]
    · iexists _, _; isplitr; swap; · iexact H25
      ipureintro; rfl
    iexists _, _; isplitr; swap; · iexact HS0
    ipureintro; rfl

end Cert.ProjIdeal.Gen

end
-- ==== Proof.ProjIdeal.Frame.lean ====
/- The frame of the input projection, from the runs of its body. -/
module

public import proofs.«01_k».proof.Proof.ProjIdeal.RunB
public import Idealize.ShloMosaic.Lib.Claim

@[expose] public section

set_option maxRecDepth 16384

noncomputable section

namespace Cert.ProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The windows of the outputs, of which the frame says nothing. -/
def forgets0 : Fin 26 → Bool := fun w => w.val == 13 || w.val == 14 || w.val == 15 || w.val == 16 || w.val == 17 || w.val == 18 || w.val == 19 || w.val == 20 || w.val == 21 || w.val == 22 || w.val == 23 || w.val == 24 || w.val == 25

/-- What the arrays and the staged blocks hold: the inputs their blocks, the outputs unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨17, h⟩ => Pipeline.Dat.unnamed (cfg := cfg0) ⟨17, h⟩ t
    | ⟨18, h⟩ => Pipeline.Dat.unnamed (cfg := cfg0) ⟨18, h⟩ t
    | ⟨19, h⟩ => Pipeline.Dat.unnamed (cfg := cfg0) ⟨19, h⟩ t
    | ⟨20, h⟩ => Pipeline.Dat.unnamed (cfg := cfg0) ⟨20, h⟩ t
    | ⟨21, h⟩ => Pipeline.Dat.unnamed (cfg := cfg0) ⟨21, h⟩ t
    | ⟨22, h⟩ => Pipeline.Dat.unnamed (cfg := cfg0) ⟨22, h⟩ t
    | ⟨23, h⟩ => Pipeline.Dat.unnamed (cfg := cfg0) ⟨23, h⟩ t
    | ⟨24, h⟩ => Pipeline.Dat.unnamed (cfg := cfg0) ⟨24, h⟩ t
    | ⟨25, h⟩ => Pipeline.Dat.unnamed (cfg := cfg0) ⟨25, h⟩ t
    | ⟨_ + 26, h⟩ => absurd h (Nat.not_lt.2 (Nat.le_add_left _ _))
  Φ _ := Pipeline.ΦA spec0 c
  q _ := fullShare
  owed _ := 0

/-- The arrays are as the call finds them. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]

/-- An input's staged block is its array's block, fetched at this point or before. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-! ## The body obligation, at a generic point -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d)
    ∗ (∃ d, owns (c : Thread nD τ) (ms0_20 t) fullShare d)
    ∗ (∃ d, owns (c : Thread nD τ) (ms0_21 t) fullShare d)
    ∗ (∃ d, owns (c : Thread nD τ) (ms0_22 t) fullShare d)
    ∗ (∃ d, owns (c : Thread nD τ) (ms0_23 t) fullShare d)
    ∗ (∃ d, owns (c : Thread nD τ) (ms0_24 t) fullShare d)
    ∗ (∃ d, owns (c : Thread nD τ) (ms0_25 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d)
    ∗ (∃ d, owns (c : Thread nD τ) (ms0_20 t) fullShare d)
    ∗ (∃ d, owns (c : Thread nD τ) (ms0_21 t) fullShare d)
    ∗ (∃ d, owns (c : Thread nD τ) (ms0_22 t) fullShare d)
    ∗ (∃ d, owns (c : Thread nD τ) (ms0_23 t) fullShare d)
    ∗ (∃ d, owns (c : Thread nD τ) (ms0_24 t) fullShare d)
    ∗ (∃ d, owns (c : Thread nD τ) (ms0_25 t) fullShare d))

set_option maxHeartbeats 4800000 in
/-- The body at any point: the run of the case the point is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12]
  rw [show (dats m 0 c).Φ t.castSucc = Pipeline.ΦA spec0 c from rfl, PhiA0_eq]
  have hN : t.val < 32 := lt_of_lt_of_eq t.isLt (show cfg0.N = 32 from N_0)
  by_cases h0 : t.val % 8 = 0
  · iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
    iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) (iblk m c 0 t) (iblk m c 1 t) (X0_2 m c t) (iblk m c 3 t) (iblk m c 4 t) (iblk m c 5 t) (iblk m c 6 t) (iblk m c 7 t) (iblk m c 8 t) (iblk m c 9 t) (iblk m c 10 t) (iblk m c 11 t) (iblk m c 12 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [HS0]; · iexact HS0
    iintro ⟨H0, H1, H2, H3, H4, H5, H6, H7, H8, H9, H10, H11, H12, H13, H14, H15, H16, H17, H18, H19, H20, H21, H22, H23, H24, H25, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    iexact H25
  · iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
    iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (X0_2 m c t) (iblk m c 3 t) (iblk m c 4 t) (iblk m c 5 t) (iblk m c 6 t) (iblk m c 7 t) (iblk m c 8 t) (iblk m c 9 t) (iblk m c 10 t) (iblk m c 11 t) (iblk m c 12 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [HS0]; · iexact HS0
    iintro ⟨H0, H1, H2, H3, H4, H5, H6, H7, H8, H9, H10, H11, H12, H13, H14, H15, H16, H17, H18, H19, H20, H21, H22, H23, H24, H25, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    iexact H25

/-- The body at a point's slots. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
/-- The run of the whole program, with every semaphore at zero at its end. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run of the whole program: the input arrays end unchanged, nothing is said of the outputs. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- A run that leaves the staged inputs as they were leaves the argument arrays as they were. -/
theorem frame_of_inputs (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(Pipeline.RDat.FramePost.arr_in h c 0 rfl).trans ((hA c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c)⟩) h

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of_inputs m ρ (fun c => (dats m 0 c).toRForget forgets0) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

end Cert.ProjIdeal.Gen

end
-- ==== Proof.lean ====
/- The proof of the certificate. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Pre_finite
public import proofs.«01_k».proof.Proof.Gen.Mix.Frame
public import proofs.«01_k».proof.Proof.Gen.MixIdeal.Value
public import proofs.«01_k».proof.Proof.Gen.MixReferenceIdeal.Run
public import proofs.«01_k».proof.Proof.Gen.Ffn.Frame
public import proofs.«01_k».proof.Proof.Gen.FfnIdeal.Value
public import proofs.«01_k».proof.Proof.Gen.FfnReferenceIdeal.Run
public import proofs.«01_k».proof.Proof.Half.MixClaim
public import proofs.«01_k».proof.Proof.Half.FfnClaim
public import proofs.«01_k».proof.Proof.Attn.Claim
public import proofs.«01_k».proof.Proof.Proj.Frame
public import proofs.«01_k».proof.Proof.ProjIdeal.Frame
public import proofs.«01_k».proof.Proof.Gen.Rwkv.Frame
public import proofs.«01_k».proof.Proof.Gen.RwkvIdeal.Frame
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Mix.Gen.facts, Cert.MixIdeal.Gen.facts, Cert.MixReferenceIdeal.Gen.facts,
    Cert.Ffn.Gen.facts, Cert.FfnIdeal.Gen.facts, Cert.FfnReferenceIdeal.Gen.facts,
    Cert.Proj.Gen.facts, Cert.ProjIdeal.Gen.facts, Cert.Rwkv.Gen.facts, Cert.RwkvIdeal.Gen.facts, Cert.Pre_finite.Gen.facts,
    fun m ρ _ => Cert.Kernel.Gen.frame m ρ,
    fun m ρ _ => Cert.KernelIdeal.Gen.frame m ρ, fun m ρ _ => Cert.KernelIdeal.Gen.frame m ρ,
    Cert.Half.attn_reference_frame, Cert.Half.attn_reference_frame_pre,
    fun m ρ _ => Cert.Mix.Gen.frame m ρ, fun m ρ _ => Cert.MixIdeal.Gen.frame m ρ, Cert.Half.mix_reference_frame,
    fun m ρ _ => Cert.Ffn.Gen.frame m ρ, fun m ρ _ => Cert.FfnIdeal.Gen.frame m ρ, Cert.Half.ffn_reference_frame,
    fun m ρ _ => Cert.Proj.Gen.frame m ρ, fun m ρ _ => Cert.ProjIdeal.Gen.frame m ρ,
    fun m ρ _ => Cert.Rwkv.Gen.frame m ρ, fun m ρ _ => Cert.RwkvIdeal.Gen.frame m ρ,
    IdealRules.named_const.statement Cert.KernelIdeal.κ "mask" .f32 0xF149F2CA#32 ⊥ rfl, Cert.Half.attn,
    trivial, Cert.Half.mix, trivial, Cert.Half.ffn, trivial, trivial⟩

end Cert.Proof

end
